-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_v44) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x32x32x32 : Shape := ⟨4, ![8, 32, 32, 32]⟩
abbrev S8192x32 : Shape := ⟨2, ![8192, 32]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S8x32x32x32 .f32) (main_arg1 : FVec F S8192x32 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Kernel.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S32x8192 : Shape := ⟨2, ![32, 8192]⟩
abbrev S8192x8192 : Shape := ⟨2, ![8192, 8192]⟩
abbrev S1x1 : Shape := ⟨2, ![1, 1]⟩
abbrev S256x32 : Shape := ⟨2, ![256, 32]⟩
abbrev S256x1 : Shape := ⟨2, ![256, 1]⟩
abbrev S256x8192 : Shape := ⟨2, ![256, 8192]⟩
abbrev S256x1024 : Shape := ⟨2, ![256, 1024]⟩
abbrev S1x1024 : Shape := ⟨2, ![1, 1024]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x256 : Shape := ⟨2, ![1, 256]⟩
abbrev S1x1x8192 : Shape := ⟨3, ![1, 1, 8192]⟩

abbrev nBuf : Space → Nat
  | .hbm => 23
  | .vmem => 18
  | .smem => 1
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S32x8192, .f32⟩
  | .hbm, ⟨13, _⟩ => ⟨S8192x8192, .f32⟩
  | .hbm, ⟨14, _⟩ => ⟨S8192x32, .f32⟩
  | .hbm, ⟨15, _⟩ => ⟨S1x1, .f32⟩
  | .hbm, ⟨16, _⟩ => ⟨S8192x8192, .f32⟩
  | .hbm, ⟨17, _⟩ => ⟨S8192x1, .i32⟩
  | .hbm, ⟨18, _⟩ => ⟨S1x1, .f32⟩
  | .hbm, ⟨19, _⟩ => ⟨S8x32x32x32, .f32⟩
  | .hbm, ⟨20, _⟩ => ⟨S8x32x32x32, .f32⟩
  | .hbm, ⟨21, _⟩ => ⟨S_, .f32⟩
  | .hbm, ⟨22, _⟩ => ⟨S_, .f32⟩
  | .local _ .vmem, ⟨0, _⟩ => ⟨S256x32, .f32⟩
  | .local _ .vmem, ⟨1, _⟩ => ⟨S256x32, .f32⟩
  | .local _ .vmem, ⟨2, _⟩ => ⟨S256x1, .f32⟩
  | .local _ .vmem, ⟨3, _⟩ => ⟨S256x1, .f32⟩
  | .local _ .vmem, ⟨4, _⟩ => ⟨S8192x32, .f32⟩
  | .local _ .vmem, ⟨5, _⟩ => ⟨S32x8192, .f32⟩
  | .local _ .vmem, ⟨6, _⟩ => ⟨S1x8192, .f32⟩
  | .local _ .vmem, ⟨7, _⟩ => ⟨S256x8192, .f32⟩
  | .local _ .vmem, ⟨8, _⟩ => ⟨S256x8192, .f32⟩
  | .local _ .vmem, ⟨9, _⟩ => ⟨S256x32, .f32⟩
  | .local _ .vmem, ⟨10, _⟩ => ⟨S256x32, .f32⟩
  | .local _ .vmem, ⟨11, _⟩ => ⟨S1x1, .f32⟩
  | .local _ .vmem, ⟨12, _⟩ => ⟨S256x8192, .f32⟩
  | .local _ .vmem, ⟨13, _⟩ => ⟨S256x8192, .f32⟩
  | .local _ .vmem, ⟨14, _⟩ => ⟨S256x1, .i32⟩
  | .local _ .vmem, ⟨15, _⟩ => ⟨S256x1, .i32⟩
  | .local _ .vmem, ⟨16, _⟩ => ⟨S1x1, .f32⟩
  | .local _ .vmem, ⟨17, _⟩ => ⟨S1x8192, .f32⟩
  | .local _ .smem, ⟨0, _⟩ => ⟨S1x1, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_v9_5 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch1 : Ref sig .tc := ⟨.vmem, 17, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v265 : BitVec 1 := Scalar.cmpi .eq arg0 c31_i32
  let v266 : BitVec 32 := Scalar.extui v265
  let c0_i32_101 : BitVec 32 := 0#32
  let v267 : BitVec 1 := Scalar.cmpi .ne v266 c0_i32_101
  v267

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S32x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8192x1, .i32⟩
  | .hbm, ⟨27, _⟩ => ⟨S8192, .i32⟩
  | .hbm, ⟨28, _⟩ => ⟨S8192x1, .i32⟩
  | .hbm, ⟨29, _⟩ => ⟨S1x8192, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S8192x8192, .f32⟩
  | .hbm, ⟨34, _⟩ => ⟨S8192x32, .f32⟩
  | .hbm, ⟨35, _⟩ => ⟨S8x32x32x32, .f32⟩
  | .hbm, ⟨36, _⟩ => ⟨S8x32x32x32, .f32⟩
  | .hbm, ⟨37, _⟩ => ⟨S8x32x32x32, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x32x32x32, .f32⟩
  | .hbm, ⟨43, _⟩ => ⟨S8x32x32x32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8x32x32x32, .f32⟩
  | .hbm, ⟨52, _⟩ => ⟨S8x32x32x32, .f32⟩
  | .hbm, ⟨53, _⟩ => ⟨S8x32x32x32, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== Proof.Ref.lean ====
/-
  The run of the reference program. Its entry point is a straight line of array operations, two of them calls; every
  buffer therefore ends at the operations' results folded over the launch contents. This file names what the six result
  buffers hold, as functions of the two argument arrays, and states the run.
-/
module

public import proofs.«01_k».proof.Defs
public import proofs.«01_k».proof.Proof.Gen.ReferenceIdeal
public import Idealize.ShloMosaic.Lib.StableHlo.Run
public import Idealize.ShloMosaic.Adequacy
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## What the results are -/

/-- The image with its channel axis last. -/
def nhwc (x : FVec F S8x32x32x32 .f32) : FVec F S8x32x32x32 .f32 :=
  transpose S8x32x32x32 [0, 2, 3, 1] x transposes_S8x32x32x32_S8x32x32x32_0_2_3_1

/-- The 8192 image points, one per row. -/
def flat (x : FVec F S8x32x32x32 .f32) : FVec F S8192x32 .f32 :=
  shapeCast S8192x32 (nhwc x) shapeCasts_S8x32x32x32_S8192x32

/-- The sum of the squares of each row. -/
def rowSq (a : FVec F S8192x32 .f32) : FVec F S8192 .f32 :=
  Host.reduceAdd (mulf a a) (constant S_ .f32 0x00000000#32) reducesTo_S8192x32_S8192_d1 h_S_

/-- The distance of every image point to every code. -/
def dist (x : FVec F S8x32x32x32 .f32) (e : FVec F S8192x32 .f32) : FVec F S8192x8192 .f32 :=
  subf
    (addf
      (broadcastInDim S8192x8192 ![0, 1] bcast_S8192x1_S8192x8192_0_1 (broadcastInDim S8192x1 ![0] bcast_S8192_S8192x1_0 (rowSq (flat x))))
      (broadcastInDim S8192x8192 ![0, 1] bcast_S1x8192_S8192x8192_0_1 (broadcastInDim S1x8192 ![1] bcast_S8192_S1x8192_1 (rowSq e))))
    (mulf (broadcastInDim S8192x8192 ![] bcast_S_S8192x8192 (constant S_ .f32 0x40000000#32))
      (Host.dotGeneral dot_S8192x32_S32x8192_S8192x8192_1_0_0_1_n_n none (flat x)
        (transpose S32x8192 [1, 0] e transposes_S8192x32_S32x8192_1_0)))

/-- The column of the least entry of each row, the least such column where several tie. -/
def argmin (d : FVec F S8192x8192 .f32) : IVec S8192 32 := fun j =>
  (Host.argReduce reducer_argmin_f32_i32 d (iotaInDim S8192x8192 32 1) (constant S_ .f32 0x7F800000#32) (constantI S_ 32 0#32)
    reducesTo_S8192x8192_S8192_d1 h_S_ j).2

/-- The index of each image point's code, as a column. -/
def idx (d : FVec F S8192x8192 .f32) : IVec S8192x1 32 :=
  broadcastInDim S8192x1 ![0] bcast_S8192_S8192x1_0 (argmin d)

/-- The one-hot rows of a column of indices. -/
def enc (i : IVec S8192x1 32) : FVec F S8192x8192 .f32 :=
  uitofp .f32 (cmpi .eq
    (broadcastInDim S8192x8192 ![0, 1] bcast_S8192x1_S8192x8192_0_1
      (broadcastInDim S8192x1 ![0] bcast_S8192_S8192x1_0 (shapeCast S8192 i shapeCasts_S8192x1_S8192)))
    (broadcastInDim S8192x8192 ![0, 1] bcast_S1x8192_S8192x8192_0_1 (iotaInDim S1x8192 32 1)))

/-- The codes the one-hot rows choose, in the image's shape. -/
def quant (h : FVec F S8192x8192 .f32) (e : FVec F S8192x32 .f32) : FVec F S8x32x32x32 .f32 :=
  shapeCast S8x32x32x32 (Host.dotGeneral dot_S8192x8192_S8192x32_S8192x32_1_0_0_1_n_n none h e) shapeCasts_S8192x32_S8x32x32x32

/-- The straight-through output: the image plus the difference to its codes, channel axis second again. -/
def qst (x : FVec F S8x32x32x32 .f32) (q : FVec F S8x32x32x32 .f32) : FVec F S8x32x32x32 .f32 :=
  transpose S8x32x32x32 [0, 3, 1, 2] (addf (nhwc x) (subf q (nhwc x))) transposes_S8x32x32x32_S8x32x32x32_0_3_1_2

/-- The mean squared difference of the image and its codes. -/
def mse (x : FVec F S8x32x32x32 .f32) (q : FVec F S8x32x32x32 .f32) : FVec F S_ .f32 :=
  Host.divf (Host.reduceAdd (mulf (subf q (nhwc x)) (subf q (nhwc x))) (constant S_ .f32 0x00000000#32) reducesTo_S8x32x32x32_S_d0_1_2_3 h_S_)
    (constant S_ .f32 0x48800000#32)

/-- The loss: the mean squared difference plus a quarter of it. -/
def loss (x : FVec F S8x32x32x32 .f32) (q : FVec F S8x32x32x32 .f32) : FVec F S_ .f32 :=
  addf (mse x q) (mulf (constant S_ .f32 0x3E800000#32) (mse x q))

/-- How often each code is chosen, over the number of points. -/
def probs (h : FVec F S8192x8192 .f32) : FVec F S8192 .f32 :=
  Host.divf (Host.reduceAdd h (constant S_ .f32 0x00000000#32) reducesTo_S8192x8192_S8192_d0 h_S_)
    (broadcastInDim S8192 ![] bcast_S_S8192 (constant S_ .f32 0x46000000#32))

/-- The perplexity of the choice. -/
def perp (h : FVec F S8192x8192 .f32) : FVec F S_ .f32 :=
  Host.exp (Host.negf (Host.reduceAdd
    (mulf (probs h) (Host.log (addf (probs h) (broadcastInDim S8192 ![] bcast_S_S8192 (constant S_ .f32 0x2EDBE6FF#32)))))
    (constant S_ .f32 0x00000000#32) reducesTo_S8192_S_d0 h_S_))

/-! ## The straight line -/

/-- The operations that make the distances. -/
abbrev ops₁ : List (HloOp τ sig (Elt F)) :=
  [ unary main_arg0 main_v0 (transpose S8x32x32x32 [0, 2, 3, 1] · transposes_S8x32x32x32_S8x32x32x32_0_2_3_1),
    reshape main_v0 main_v1 (rfl : (.f32 : EltTy) = .f32) shapeCasts_S8x32x32x32_S8192x32,
    binary main_v1 main_v1 main_v2 mulf,
    nullary main_cst (constant S_ .f32 0x00000000#32),
    binary main_v2 main_cst main_v3 (fun x v => Host.reduceAdd x v reducesTo_S8192x32_S8192_d1 h_S_),
    unary main_v3 main_v4 (broadcastInDim S8192x1 ![0] bcast_S8192_S8192x1_0),
    binary main_arg1 main_arg1 main_v5 mulf,
    nullary main_cst_0 (constant S_ .f32 0x00000000#32),
    binary main_v5 main_cst_0 main_v6 (fun x v => Host.reduceAdd x v reducesTo_S8192x32_S8192_d1 h_S_),
    unary main_v6 main_v7 (broadcastInDim S1x8192 ![1] bcast_S8192_S1x8192_1),
    unary main_v4 main_v8 (broadcastInDim S8192x8192 ![0, 1] bcast_S8192x1_S8192x8192_0_1),
    unary main_v7 main_v9 (broadcastInDim S8192x8192 ![0, 1] bcast_S1x8192_S8192x8192_0_1),
    binary main_v8 main_v9 main_v10 addf,
    unary main_arg1 main_v11 (transpose S32x8192 [1, 0] · transposes_S8192x32_S32x8192_1_0),
    binary main_v1 main_v11 main_v12 (fun l r => Host.dotGeneral dot_S8192x32_S32x8192_S8192x8192_1_0_0_1_n_n none l r),
    nullary main_cst_1 (constant S_ .f32 0x40000000#32),
    unary main_cst_1 main_v13 (broadcastInDim S8192x8192 ![] bcast_S_S8192x8192),
    binary main_v13 main_v12 main_v14 mulf,
    binary main_v10 main_v14 main_v15 subf ]

/-- The operations that make the indices and their one-hot rows. -/
abbrev ops₂ : List (HloOp τ sig (Elt F)) :=
  [ TRef.nullary main_call0.v0 (iotaInDim S8192x8192 32 1),
    TRef.nullary main_call0.cst (constant S_ .f32 0x7F800000#32),
    TRef.nullary main_call0.c (constantI S_ 32 0#32),
    TRef.quaternary (.of main_v15 : TRef sig ⟨S8192x8192, .f32⟩) main_call0.v0 main_call0.cst main_call0.c main_call0.v1_0 (fun x y u v j => (Host.argReduce reducer_argmin_f32_i32 x y u v reducesTo_S8192x8192_S8192_d1 h_S_ j).1),
    TRef.quaternary (.of main_v15 : TRef sig ⟨S8192x8192, .f32⟩) main_call0.v0 main_call0.cst main_call0.c main_call0.v1_1 (fun x y u v j => (Host.argReduce reducer_argmin_f32_i32 x y u v reducesTo_S8192x8192_S8192_d1 h_S_ j).2),
    unary main_v16 main_v17 (broadcastInDim S8192x1 ![0] bcast_S8192_S8192x1_0),
    reshape main_v17 main_v18 (rfl : (.i32 : EltTy) = .i32) shapeCasts_S8192x1_S8192,
    TRef.unary (.of main_v18 : TRef sig ⟨S8192, .i32⟩) main_call1.v0 (broadcastInDim S8192x1 ![0] bcast_S8192_S8192x1_0),
    TRef.nullary main_call1.v1 (iotaInDim S1x8192 32 1),
    TRef.unary main_call1.v0 main_call1.v2 (broadcastInDim S8192x8192 ![0, 1] bcast_S8192x1_S8192x8192_0_1),
    TRef.unary main_call1.v1 main_call1.v3 (broadcastInDim S8192x8192 ![0, 1] bcast_S1x8192_S8192x8192_0_1),
    TRef.binary main_call1.v2 main_call1.v3 main_call1.v4 (cmpi .eq),
    TRef.unary main_call1.v4 main_call1.v5 (uitofp .f32) ]

/-- The operations that make the straight-through output and the loss. -/
abbrev ops₃ : List (HloOp τ sig (Elt F)) :=
  [ binary main_v19 main_arg1 main_v20 (fun l r => Host.dotGeneral dot_S8192x8192_S8192x32_S8192x32_1_0_0_1_n_n none l r),
    reshape main_v20 main_v21 (rfl : (.f32 : EltTy) = .f32) shapeCasts_S8192x32_S8x32x32x32,
    binary main_v21 main_v0 main_v22 subf,
    binary main_v22 main_v22 main_v23 mulf,
    nullary main_cst_2 (constant S_ .f32 0x00000000#32),
    binary main_v23 main_cst_2 main_v24 (fun x v => Host.reduceAdd x v reducesTo_S8x32x32x32_S_d0_1_2_3 h_S_),
    nullary main_cst_3 (constant S_ .f32 0x48800000#32),
    binary main_v24 main_cst_3 main_v25 Host.divf,
    binary main_v21 main_v0 main_v26 subf,
    binary main_v26 main_v26 main_v27 mulf,
    nullary main_cst_4 (constant S_ .f32 0x00000000#32),
    binary main_v27 main_cst_4 main_v28 (fun x v => Host.reduceAdd x v reducesTo_S8x32x32x32_S_d0_1_2_3 h_S_),
    nullary main_cst_5 (constant S_ .f32 0x48800000#32),
    binary main_v28 main_cst_5 main_v29 Host.divf,
    nullary main_cst_6 (constant S_ .f32 0x3E800000#32),
    binary main_cst_6 main_v25 main_v30 mulf,
    binary main_v29 main_v30 main_v31 addf,
    binary main_v21 main_v0 main_v32 subf,
    binary main_v0 main_v32 main_v33 addf,
    unary main_v33 main_v34 (transpose S8x32x32x32 [0, 3, 1, 2] · transposes_S8x32x32x32_S8x32x32x32_0_3_1_2) ]

/-- The operations that make the perplexity. -/
abbrev ops₄ : List (HloOp τ sig (Elt F)) :=
  [ nullary main_cst_7 (constant S_ .f32 0x00000000#32),
    binary main_v19 main_cst_7 main_v35 (fun x v => Host.reduceAdd x v reducesTo_S8192x8192_S8192_d0 h_S_),
    nullary main_cst_8 (constant S_ .f32 0x46000000#32),
    unary main_cst_8 main_v36 (broadcastInDim S8192 ![] bcast_S_S8192),
    binary main_v35 main_v36 main_v37 Host.divf,
    nullary main_cst_9 (constant S_ .f32 0x2EDBE6FF#32),
    unary main_cst_9 main_v38 (broadcastInDim S8192 ![] bcast_S_S8192),
    binary main_v37 main_v38 main_v39 addf,
    unary main_v39 main_v40 Host.log,
    binary main_v37 main_v40 main_v41 mulf,
    nullary main_cst_10 (constant S_ .f32 0x00000000#32),
    binary main_v41 main_cst_10 main_v42 (fun x v => Host.reduceAdd x v reducesTo_S8192_S_d0 h_S_),
    unary main_v42 main_v43 Host.negf,
    unary main_v43 main_v44 Host.exp ]

/-- The program's operations, in order. -/
abbrev ops : List (HloOp τ sig (Elt F)) := ops₁ ++ (ops₂ ++ (ops₃ ++ ops₄))

/-- The entry point is that straight line. -/
theorem main_eq (c : Dev nD) : main (F := F) c = seq ops := rfl

/-- Nothing is scoped on this signature. -/
theorem scopedRefs_eq : (Finset.univ.filter fun b : Ref sig .tc => b.isScoped) = ∅ := by decide
/-- No semaphore is scoped either. -/
theorem scopedSems_eq : (Finset.univ.filter fun sm : SemLoc sig => sm.isScoped .tc) = ∅ := by decide

/-- Every operation touches the TensorCore's references only: stretch by stretch. -/
theorem ops_sub : (ops : List (HloOp τ sig (Elt F))).Forall fun op => op.bufs ⊆ tcRefs τ sig := by
  refine List.forall_append.mpr ⟨?_, List.forall_append.mpr ⟨?_, List.forall_append.mpr ⟨?_, ?_⟩⟩⟩
  · exact ⟨unary_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub ..⟩
  · exact ⟨nullary_bufs_sub .., nullary_bufs_sub .., nullary_bufs_sub .., quaternary_bufs_sub .., quaternary_bufs_sub ..,
    unary_bufs_sub .., reshape_bufs_sub .., unary_bufs_sub .., nullary_bufs_sub .., unary_bufs_sub ..,
    unary_bufs_sub .., binary_bufs_sub .., unary_bufs_sub ..⟩
  · exact ⟨binary_bufs_sub .., reshape_bufs_sub .., binary_bufs_sub .., binary_bufs_sub .., nullary_bufs_sub ..,
    binary_bufs_sub .., nullary_bufs_sub .., binary_bufs_sub .., binary_bufs_sub .., binary_bufs_sub ..,
    nullary_bufs_sub .., binary_bufs_sub .., nullary_bufs_sub .., binary_bufs_sub .., nullary_bufs_sub ..,
    binary_bufs_sub .., binary_bufs_sub .., binary_bufs_sub .., binary_bufs_sub .., unary_bufs_sub ..⟩
  · exact ⟨nullary_bufs_sub .., binary_bufs_sub .., nullary_bufs_sub .., unary_bufs_sub .., binary_bufs_sub ..,
    nullary_bufs_sub .., unary_bufs_sub .., binary_bufs_sub .., unary_bufs_sub .., binary_bufs_sub ..,
    nullary_bufs_sub .., binary_bufs_sub .., unary_bufs_sub .., unary_bufs_sub ..⟩

/-! ## What each stretch leaves -/

section stretches
variable (V : Valuation τ sig (Elt F))

/-- The fold over a joined line is the fold over its parts in turn. -/
theorem after_join (l₁ l₂ : List (HloOp τ sig (Elt F))) : after (l₁ ++ l₂) V = after l₂ (after l₁ V) := by
  induction l₁ generalizing V with
  | nil => rfl
  | cons op l ih => exact ih _

/-- The first stretch leaves the distances, -/
theorem a₁_dist : after ops₁ V (main_v15 : DevRef τ sig) = dist (V (main_arg0 : DevRef τ sig)) (V (main_arg1 : DevRef τ sig)) := by
  after_results
  rfl
/-- the image with its channel axis last, -/
theorem a₁_nhwc : after ops₁ V (main_v0 : DevRef τ sig) = nhwc (V (main_arg0 : DevRef τ sig)) := by
  after_results
  rfl
/-- and the arguments as they were. -/
theorem a₁_arg0 : after ops₁ V (main_arg0 : DevRef τ sig) = V (main_arg0 : DevRef τ sig) := by after_results
/-- The codes too. -/
theorem a₁_arg1 : after ops₁ V (main_arg1 : DevRef τ sig) = V (main_arg1 : DevRef τ sig) := by after_results

/-- The second stretch leaves the indices, -/
theorem a₂_idx : after ops₂ V (main_v17 : DevRef τ sig) = idx (F := F) (V (main_v15 : DevRef τ sig)) := by
  after_results
  rfl
/-- their one-hot rows, -/
theorem a₂_enc : after ops₂ V (main_v19 : DevRef τ sig) = enc (F := F) (idx (F := F) (V (main_v15 : DevRef τ sig))) := by
  after_results
  simp only [TRef.ofBuf_toBuf]
  simp only [TRef.ofBuf, TRef.toBuf, cast_eq]
  rfl
/-- and these as they were: the distances, -/
theorem a₂_dist : after ops₂ V (main_v15 : DevRef τ sig) = V (main_v15 : DevRef τ sig) := by after_results
/-- the image with its channel axis last, -/
theorem a₂_nhwc : after ops₂ V (main_v0 : DevRef τ sig) = V (main_v0 : DevRef τ sig) := by after_results
/-- the image, -/
theorem a₂_arg0 : after ops₂ V (main_arg0 : DevRef τ sig) = V (main_arg0 : DevRef τ sig) := by after_results
/-- the codes. -/
theorem a₂_arg1 : after ops₂ V (main_arg1 : DevRef τ sig) = V (main_arg1 : DevRef τ sig) := by after_results

/-- The third stretch leaves the straight-through output, -/
theorem a₃_qst (x : FVec F S8x32x32x32 .f32) (hx : V (main_v0 : DevRef τ sig) = nhwc x) :
    after ops₃ V (main_v34 : DevRef τ sig) = qst x (quant (V (main_v19 : DevRef τ sig)) (V (main_arg1 : DevRef τ sig))) := by
  after_results
  rw [hx]
  rfl
/-- the loss, -/
theorem a₃_loss (x : FVec F S8x32x32x32 .f32) (hx : V (main_v0 : DevRef τ sig) = nhwc x) :
    after ops₃ V (main_v31 : DevRef τ sig) = loss x (quant (V (main_v19 : DevRef τ sig)) (V (main_arg1 : DevRef τ sig))) := by
  after_results
  rw [hx]
  rfl
/-- and these as they were: the distances, -/
theorem a₃_dist : after ops₃ V (main_v15 : DevRef τ sig) = V (main_v15 : DevRef τ sig) := by after_results
/-- the indices, -/
theorem a₃_idx : after ops₃ V (main_v17 : DevRef τ sig) = V (main_v17 : DevRef τ sig) := by after_results
/-- their one-hot rows, -/
theorem a₃_enc : after ops₃ V (main_v19 : DevRef τ sig) = V (main_v19 : DevRef τ sig) := by after_results
/-- the image, -/
theorem a₃_arg0 : after ops₃ V (main_arg0 : DevRef τ sig) = V (main_arg0 : DevRef τ sig) := by after_results
/-- the codes. -/
theorem a₃_arg1 : after ops₃ V (main_arg1 : DevRef τ sig) = V (main_arg1 : DevRef τ sig) := by after_results

/-- The last stretch leaves the perplexity, -/
theorem a₄_perp : after ops₄ V (main_v44 : DevRef τ sig) = perp (V (main_v19 : DevRef τ sig)) := by
  after_results
  rfl
/-- and these as they were: the distances, -/
theorem a₄_dist : after ops₄ V (main_v15 : DevRef τ sig) = V (main_v15 : DevRef τ sig) := by after_results
/-- the straight-through output, -/
theorem a₄_qst : after ops₄ V (main_v34 : DevRef τ sig) = V (main_v34 : DevRef τ sig) := by after_results
/-- the loss, -/
theorem a₄_loss : after ops₄ V (main_v31 : DevRef τ sig) = V (main_v31 : DevRef τ sig) := by after_results
/-- the one-hot rows, -/
theorem a₄_enc : after ops₄ V (main_v19 : DevRef τ sig) = V (main_v19 : DevRef τ sig) := by after_results
/-- the indices, -/
theorem a₄_idx : after ops₄ V (main_v17 : DevRef τ sig) = V (main_v17 : DevRef τ sig) := by after_results
/-- the image, -/
theorem a₄_arg0 : after ops₄ V (main_arg0 : DevRef τ sig) = V (main_arg0 : DevRef τ sig) := by after_results
/-- the codes. -/
theorem a₄_arg1 : after ops₄ V (main_arg1 : DevRef τ sig) = V (main_arg1 : DevRef τ sig) := by after_results

end stretches

/-! ## The run -/

/-- From any memory with zero counters, every fair execution ends, with the six results at the functions above of the
    arguments' launch contents and the arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        let x : FVec F S8x32x32x32 .f32 := m ((c.tc : Thread nD τ).loc main_arg0)
        let e : FVec F S8192x32 .f32 := m ((c.tc : Thread nD τ).loc main_arg1)
        let i : IVec S8192x1 32 := idx (F := F) (dist x e)
        r.2.mem ((c.tc : Thread nD τ).loc main_v15) = dist x e
        ∧ r.2.mem ((c.tc : Thread nD τ).loc main_v34) = qst x (quant (enc i) e)
        ∧ r.2.mem ((c.tc : Thread nD τ).loc main_v31) = loss x (quant (enc i) e)
        ∧ r.2.mem ((c.tc : Thread nD τ).loc main_v19) = enc (F := F) i
        ∧ r.2.mem ((c.tc : Thread nD τ).loc main_v17) = i
        ∧ r.2.mem ((c.tc : Thread nD τ).loc main_v44) = perp (F := F) (enc i)
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (θ_run defs _ _).mono (fun r h c => ?_)
    (run_seq scopedRefs_eq scopedSems_eq defs main (fun _ => ops) main_eq (fun _ => ops_sub) m ρ)
  have key : ∀ b : Ref sig .tc, r.2.mem ((c.tc : Thread nD τ).loc b)
      = after ops₄ (after ops₃ (after ops₂ (after ops₁ (launchContents m c)))) (Proc.devRef .tc b) := fun b => by
    rw [h c b, after_join, after_join, after_join]
  set V₁ := after ops₁ (launchContents m c) with hV₁
  set V₂ := after ops₂ V₁ with hV₂
  have n2 : V₂ (main_v0 : DevRef τ sig) = nhwc (m ((c.tc : Thread nD τ).loc main_arg0)) := (a₂_nhwc V₁).trans (a₁_nhwc _)
  have d1 : V₁ (main_v15 : DevRef τ sig) = dist (m ((c.tc : Thread nD τ).loc main_arg0)) (m ((c.tc : Thread nD τ).loc main_arg1)) := a₁_dist _
  have e2 : V₂ (main_v19 : DevRef τ sig) = enc (F := F) (idx (F := F) (dist (m ((c.tc : Thread nD τ).loc main_arg0)) (m ((c.tc : Thread nD τ).loc main_arg1)))) := by
    rw [hV₂, a₂_enc, d1]
  have c2 : V₂ (main_arg1 : DevRef τ sig) = m ((c.tc : Thread nD τ).loc main_arg1) := (a₂_arg1 V₁).trans (a₁_arg1 _)
  refine ⟨?_, ?_, ?_, ?_, ?_, ?_, ?_, ?_⟩
  · exact (key _).trans ((a₄_dist _).trans ((a₃_dist _).trans ((a₂_dist _).trans d1)))
  · exact (key _).trans ((a₄_qst _).trans ((a₃_qst V₂ _ n2).trans (by rw [e2, c2])))
  · exact (key _).trans ((a₄_loss _).trans ((a₃_loss V₂ _ n2).trans (by rw [e2, c2])))
  · exact (key _).trans ((a₄_enc _).trans ((a₃_enc _).trans e2))
  · exact (key _).trans ((a₄_idx _).trans ((a₃_idx _).trans ((a₂_idx V₁).trans (by rw [d1]))))
  · exact (key _).trans ((a₄_perp _).trans (by rw [a₃_enc, e2]))
  · exact (key _).trans ((a₄_arg0 _).trans ((a₃_arg0 _).trans ((a₂_arg0 _).trans (a₁_arg0 _))))
  · exact (key _).trans ((a₄_arg1 _).trans ((a₃_arg1 _).trans ((a₂_arg1 _).trans (a₁_arg1 _))))

/-- The reference's frame: it ends, its arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2.2.2, sem_eq_zero_of_no_sems (by decide) r.2⟩) (run_main m ρ)

end Cert.Proof.Ref

end
-- ==== Proof.Tile.lean ====
/-
  One grid point of the kernel, as functions of the five input blocks.

  A grid point holds 256 tokens (rows) and the whole codebook (8192 columns). The kernel handles the columns in eight
  chunks of 1024: it computes a chunk of distances, its row minimum and the first column that attains it, and keeps a
  running (minimum, column) pair that a later chunk replaces only when it is strictly smaller. The definitions here say
  the same of the whole 256 × 8192 block, and the theorems say that the printed chunk payloads are its chunks.
-/
module
public import proofs.«01_k».proof.Proof.Gen.KernelIdeal.Frame
public import Idealize.ShloMosaic.Lib.Pipeline.Value
public import Idealize.ShloMosaic.Lib.Pipeline.ValueKit.Tiles
public import Idealize.ShloMosaic.Lib.ValueIdx

@[expose] public section

noncomputable section

namespace Cert.Proof.Tile

open Cert.KernelIdeal Cert.KernelIdeal.Gen
open Idealize.ShloMosaic Idealize.ShloMosaic.ValueIdx
open Idealize.SL Idealize.SL.Sem

variable {F : FTy → Type} [FloatOps F]

/-- The matrix product of the tokens with the transposed codebook. -/
def prod (x0 : Vec F S256x32 .f32) (x3 : Vec F S32x8192 .f32) : FVec F S256x8192 .f32 :=
  matmul dot_S256x32_S32x8192_S256x8192_1_0_0_1_n_n none x0 x3 (constant S256x8192 .f32 0x00000000#32)

/-- The block of distances: (squared norm of the token + squared norm of the code) − 2 · product. -/
def dist (x0 : Vec F S256x32 .f32) (x1 : Vec F S256x1 .f32) (x3 : Vec F S32x8192 .f32) (x4 : Vec F S1x8192 .f32) :
    FVec F S256x8192 .f32 := fun y =>
  FloatOps.subf (FloatOps.addf (x1 (ix2 (y 0) (0 : Fin 1))) (x4 (ix2 (0 : Fin 1) (y 1))))
    (FloatOps.mulf (FloatOps.ofBits .f32 0x40000000#32) (prod x0 x3 y))

/-- Columns `1024 k … 1024 k + 1023` of a block (the column taken modulo 8192, so that it is total in `k`). -/
def chunk (D : FVec F S256x8192 .f32) (k : ℕ) : FVec F S256x1024 .f32 := fun y =>
  D (ix2 (y 0) (⟨(1024 * k + (y 1).val) % 8192, Nat.mod_lt _ (by norm_num)⟩ : Fin 8192))

/-- A chunk's row minima. -/
def cmin (d : FVec F S256x1024 .f32) : FVec F S256x1 .f32 :=
  shapeCast S256x1 (multiReduction .minimumf [1] S256 d 0x7F800000#32 reduces_S256x1024_S256 (.inl rfl) rfl)
    shapeCasts_S256_S256x1

/-- The first column of the block at which each row of a chunk that starts at column `o` attains its minimum. -/
def cidx (d : FVec F S256x1024 .f32) (o : BitVec 32) : IVec S256x1 32 :=
  addi (shapeCast S256x1 (multiReductionI .minsi [1] S256
      (select (cmpf .oeq d (broadcastTo S256x1024 (cmin d) broadcasts_S256x1_S256x1024))
        (iota .tc S256x1024 32 [1] iota_S256x1024_d1_w32) (broadcast S256x1024 8192#32))
      2147483647#32 reduces_S256x1024_S256 rfl) shapeCasts_S256_S256x1) (broadcast S256x1 o)

/-- The running pair (minimum, column) after chunks `0 … k`. -/
def best (D : FVec F S256x8192 .f32) : ℕ → FVec F S256x1 .f32 × IVec S256x1 32
  | 0 => (cmin (chunk D 0), cidx (chunk D 0) 0#32)
  | k + 1 =>
    (select (cmpf .olt (cmin (chunk D (k + 1))) (best D k).1) (cmin (chunk D (k + 1))) (best D k).1,
     select (cmpf .olt (cmin (chunk D (k + 1))) (best D k).1)
       (cidx (chunk D (k + 1)) (BitVec.ofNat 32 (1024 * (k + 1)))) (best D k).2)

/-- The block of encodings of a column of indices: one at the index's column, zero elsewhere. -/
def hot (i : IVec S256x1 32) : FVec F S256x8192 .f32 := fun y =>
  FloatOps.sitofp .f32 ((IntOp.cmpi .eq (BitVec.ofNat 32 (y 1).val) (i (ix2 (y 0) (0 : Fin 1)))).setWidth 32)

/-- The sum of the row minima of a grid point. -/
def total (m : FVec F S256x1 .f32) : F .f32 := k0_pay4 m

/-- The column sums of a block of encodings. -/
def count (e : FVec F S256x8192 .f32) : FVec F S1x8192 .f32 :=
  matmul dot_S1x256_S256x8192_S1x8192_1_0_0_1_n_n none (broadcast S1x256 (FloatOps.ofBits .f32 0x3F800000#32)) e
    (constant S1x8192 .f32 0x00000000#32)

/-- The straight-through block: token + (quantized − token). -/
def through (x0 : Vec F S256x32 .f32) (x2 : Vec F S8192x32 .f32) (e : FVec F S256x8192 .f32) : FVec F S256x32 .f32 :=
  addf x0 (subf (matmul dot_S256x8192_S8192x32_S256x32_1_0_0_1_n_n none e x2 (constant S256x32 .f32 0x00000000#32)) x0)

/-- The printed chunk of distances at columns `1024 k …` is the chunk of the whole block. -/
theorem chunk_eq (x0 : Vec F S256x32 .f32) (x1 : Vec F S256x1 .f32) (x3 : Vec F S32x8192 .f32) (x4 : Vec F S1x8192 .f32)
    (k o : ℕ) (ho : o = 1024 * k) (inb : ∀ a, ![0, o] a + ![1, 1024] a ≤ S1x8192.size a)
    (h : S256x8192.Slices ![0, o] S256x1024) :
    subf (addf (broadcastTo S256x1024 x1 broadcasts_S256x1_S256x1024)
        (broadcastTo S256x1024 (show Vec F S1x1024 .f32 from View.ld x4 (Rect.unit ![0, o] ![1, 1024] inb)) broadcasts_S1x1024_S256x1024))
      (mulf (broadcast S256x1024 (FloatOps.ofBits .f32 0x40000000#32)) (extractStridedSlice S256x1024 ![0, o] (prod x0 x3) h))
      = chunk (dist x0 x1 x3 x4) k := by
  have hk : o + 1024 ≤ 8192 := inb 1
  funext y
  have hy : (y 1).val < 1024 := (y 1).isLt
  have e0 : (⟨(1024 * k + (y 1).val) % 8192, Nat.mod_lt _ (by norm_num)⟩ : Fin 8192) = ⟨o + (y 1).val, by omega⟩ :=
    Fin.ext (by show (1024 * k + (y 1).val) % 8192 = o + (y 1).val; omega)
  unfold chunk dist
  rw [e0]
  refine congrArg₂ FloatOps.subf (congrArg₂ FloatOps.addf ?_ ?_) (congrArg (FloatOps.mulf _) ?_)
  · exact broadcastTo_apply _ _ y _ fun a => match a with | ⟨0, _⟩ => rfl | ⟨1, _⟩ => rfl
  · refine (broadcastTo_apply _ _ y (ix2 (0 : Fin 1) (⟨(y 1).val, hy⟩ : Fin 1024)) fun a => match a with | ⟨0, _⟩ => rfl | ⟨1, _⟩ => rfl).trans ?_
    exact View.ld_unit_apply_of x4 _ _ _ _ _ fun a => match a with | ⟨0, _⟩ => rfl | ⟨1, _⟩ => rfl
  · exact extractStridedSlice_apply _ _ _ y _ fun a => match a with
      | ⟨0, _⟩ => (Nat.zero_add _).symm | ⟨1, _⟩ => rfl

/-- A chunk of the block read where it lies in the block. -/
theorem chunk_tile (D : FVec F S256x8192 .f32) (y : S256x8192.Idx) (k o : ℕ) (ho : o = 1024 * k) :
    View.TileAt (Val := Elt F) (e := EltTy.f32) y ![0, o] ![256, 1024] (chunk D k) (D y) := by
  intro x hx
  have h0 : (y 0).val = 0 + (x 0).val := hx 0
  have h1 : (y 1).val = o + (x 1).val := hx 1
  have hy : (y 1).val < 8192 := (y 1).isLt
  unfold chunk
  refine congrArg D (funext fun a => ?_)
  match a with
  | ⟨0, _⟩ => exact Fin.ext (by show (x 0).val = (y 0).val; omega)
  | ⟨1, _⟩ => exact Fin.ext (by show (1024 * k + (x 1).val) % 8192 = (y 1).val; omega)

/-- In 32-bit words, `a = w − b` and `b + a = w` say the same. -/
theorem eq_sub_word (a b w : BitVec 32) : (a == w - b) = (b + a == w) := by
  have h : a = w - b ↔ b + a = w := by
    constructor
    · rintro rfl
      rw [BitVec.add_comm, BitVec.sub_add_cancel]
    · rintro rfl
      rw [BitVec.add_comm, BitVec.add_sub_cancel]
  rw [Bool.eq_iff_iff, beq_iff_eq, beq_iff_eq]
  exact h

/-- The printed chunk of encodings read where it lies in the block: comparing the chunk's own column number with
    (index − first column) is comparing the block's column number with the index. -/
theorem hot_tile (i : IVec S256x1 32) (y : S256x8192.Idx) (o : ℕ) :
    View.TileAt (Val := Elt F) (e := EltTy.f32) y ![0, o] ![256, 1024]
      (sitofp (F := F) .f32 (extui 32 (cmpi .eq (iota .tc S256x1024 32 [1] iota_S256x1024_d1_w32)
        (broadcastTo S256x1024 (subi i (broadcast S256x1 (BitVec.ofNat 32 o))) broadcasts_S256x1_S256x1024)) natLt_1_32))
      (hot i y) := by
  intro x hx
  have h0 : (y 0).val = 0 + (x 0).val := hx 0
  have h1 : (y 1).val = o + (x 1).val := hx 1
  have hi : broadcastTo S256x1024 (subi i (broadcast S256x1 (BitVec.ofNat 32 o))) broadcasts_S256x1_S256x1024 x
      = i (ix2 (y 0) (0 : Fin 1)) - BitVec.ofNat 32 o := by
    refine (broadcastTo_apply _ _ x (ix2 (y 0) (0 : Fin 1)) fun a => match a with
      | ⟨0, _⟩ => h0.trans (Nat.zero_add _) | ⟨1, _⟩ => rfl).trans ?_
    rfl
  show FloatOps.sitofp .f32 ((IntOp.cmpi .eq (iota .tc S256x1024 32 [1] iota_S256x1024_d1_w32 x) _).setWidth 32) = _
  rw [hi, iota_single_apply]
  unfold hot
  refine congrArg (fun b => FloatOps.sitofp .f32 (BitVec.setWidth 32 b)) ?_
  rw [h1]
  rw [BitVec.ofNat_add]
  exact congrArg BitVec.ofBool (eq_sub_word _ _ _)

end Cert.Proof.Tile
-- ==== Proof.Payload.lean ====
/-
  The kernel's printed payloads, read as the block functions of `Tile`.

  The printed text computes one grid point in pieces (a chunk, its minimum, the running pair after it). Each theorem
  here names one piece: given the pieces before it, it is the corresponding value of `dist`, `chunk`, `best` or `hot`.
-/
module
public import proofs.«01_k».proof.Proof.Tile

@[expose] public section

set_option maxRecDepth 16384

noncomputable section

namespace Cert.Proof.Tile

open Cert.KernelIdeal Cert.KernelIdeal.Gen
open Idealize.ShloMosaic Idealize.ShloMosaic.ValueIdx
open Idealize.SL Idealize.SL.Sem

variable {F : FTy → Type} [FloatOps F]
variable (x0 : Vec F S256x32 .f32) (x1 : Vec F S256x1 .f32) (x2 : Vec F S8192x32 .f32) (x3 : Vec F S32x8192 .f32)
  (x4 : Vec F S1x8192 .f32)

/-! ## Loads of whole blocks, and casts to the same shape -/

/-- A load of the whole token block. -/
theorem ld0 (inb) : View.ld x0 (Rect.unit ![0, 0] ![256, 32] inb) = x0 :=
  View.ld_unit_lit (S := S256x32) inb x0 (by decide)

/-- A load of the whole column of token norms. -/
theorem ld1 (inb) : View.ld x1 (Rect.unit ![0, 0] ![256, 1] inb) = x1 :=
  View.ld_unit_lit (S := S256x1) inb x1 (by decide)

/-- A load of the whole codebook. -/
theorem ld2 (inb) : View.ld x2 (Rect.unit ![0, 0] ![8192, 32] inb) = x2 :=
  View.ld_unit_lit (S := S8192x32) inb x2 (by decide)

/-- A load of the whole transposed codebook. -/
theorem ld3 (inb) : View.ld x3 (Rect.unit ![0, 0] ![32, 8192] inb) = x3 :=
  View.ld_unit_lit (S := S32x8192) inb x3 (by decide)

/-- A load of a whole histogram. -/
theorem ld_hist (h : Vec F S1x8192 .f32) (inb) : View.ld h (Rect.unit ![0, 0] ![1, 8192] inb) = h :=
  View.ld_unit_lit (S := S1x8192) inb h (by decide)

/-- A load of the one cell of the running sum. -/
theorem ld_cell (h : Vec F S1x1 .f32) (inb) : View.ld h (Rect.unit ![0, 0] ![1, 1] inb) = h :=
  View.ld_unit_lit (S := S1x1) inb h (by decide)

/-- The kernel's recast of the token rows changes nothing. -/
theorem pay11_eq : k0_pay11 x0 = x0 := shapeCast_self _ _

/-- The kernel's recast of the token norms changes nothing. -/
theorem pay12_eq : k0_pay12 x1 = x1 := shapeCast_self _ _

/-- The matrix product that all chunks of distances are cut from. -/
theorem pay13_eq : k0_pay13 x0 x3 = prod x0 x3 := by
  simp only [k0_pay13, pay11_eq, shapeCast_self]
  rfl

/-! ## The chunks of distances -/

/-- Columns 0 … 1023. -/
theorem pay14_eq :
    k0_pay14 x0 x1 x3 (View.ld x4 (Rect.unit ![0, 0] ![1, 1024] inb_S1x8192_S1x1024_0_0))
      = chunk (dist x0 x1 x3 x4) 0 := by
  simp only [k0_pay14, pay12_eq, pay13_eq, shapeCast_self]
  exact chunk_eq x0 x1 x3 x4 0 0 rfl _ _

/-- Columns 1024 … 2047. -/
theorem pay17_eq :
    k0_pay17 x0 x1 x3 (View.ld x4 (Rect.unit ![0, 1024] ![1, 1024] inb_S1x8192_S1x1024_0_1024))
      = chunk (dist x0 x1 x3 x4) 1 := by
  simp only [k0_pay17, pay12_eq, pay13_eq, shapeCast_self]
  exact chunk_eq x0 x1 x3 x4 1 1024 rfl _ _

/-- Columns 2048 … 3071. -/
theorem pay21_eq :
    k0_pay21 x1 (prod x0 x3) (View.ld x4 (Rect.unit ![0, 2048] ![1, 1024] inb_S1x8192_S1x1024_0_2048))
      = chunk (dist x0 x1 x3 x4) 2 := by
  simp only [k0_pay21, shapeCast_self]
  exact chunk_eq x0 x1 x3 x4 2 2048 rfl _ _

/-- Columns 3072 … 4095. -/
theorem pay28_eq :
    k0_pay28 (k0_pay26 x1 (View.ld x4 (Rect.unit ![0, 3072] ![1, 1024] inb_S1x8192_S1x1024_0_3072))) (k0_pay27 (prod x0 x3))
      = chunk (dist x0 x1 x3 x4) 3 := by
  simp only [k0_pay28, k0_pay26, k0_pay27, shapeCast_self]
  exact chunk_eq x0 x1 x3 x4 3 3072 rfl _ _

/-- Columns 4096 … 5119. -/
theorem pay32_eq :
    k0_pay32 x1 (prod x0 x3) (View.ld x4 (Rect.unit ![0, 4096] ![1, 1024] inb_S1x8192_S1x1024_0_4096))
      = chunk (dist x0 x1 x3 x4) 4 := by
  simp only [k0_pay32, shapeCast_self]
  exact chunk_eq x0 x1 x3 x4 4 4096 rfl _ _

/-- Columns 5120 … 6143. -/
theorem pay37_eq :
    k0_pay37 x1 (prod x0 x3) (View.ld x4 (Rect.unit ![0, 5120] ![1, 1024] inb_S1x8192_S1x1024_0_5120))
      = chunk (dist x0 x1 x3 x4) 5 := by
  simp only [k0_pay37, shapeCast_self]
  exact chunk_eq x0 x1 x3 x4 5 5120 rfl _ _

/-- Columns 6144 … 7167. -/
theorem pay42_eq :
    k0_pay42 x1 (prod x0 x3) (View.ld x4 (Rect.unit ![0, 6144] ![1, 1024] inb_S1x8192_S1x1024_0_6144))
      = chunk (dist x0 x1 x3 x4) 6 := by
  simp only [k0_pay42, shapeCast_self]
  exact chunk_eq x0 x1 x3 x4 6 6144 rfl _ _

/-- Columns 7168 … 8191. -/
theorem pay48_eq :
    k0_pay48 x1 (prod x0 x3) (View.ld x4 (Rect.unit ![0, 7168] ![1, 1024] inb_S1x8192_S1x1024_0_7168))
      = chunk (dist x0 x1 x3 x4) 7 := by
  simp only [k0_pay48, shapeCast_self]
  exact chunk_eq x0 x1 x3 x4 7 7168 rfl _ _

/-! ## The running minimum and its column -/

/-- The running row minimum after chunk 0. -/
theorem pay15_eq :
    k0_pay15 x0 x1 x3 (View.ld x4 (Rect.unit ![0, 0] ![1, 1024] inb_S1x8192_S1x1024_0_0))
      = (best (dist x0 x1 x3 x4) 0).1 := by
  simp only [k0_pay15, pay14_eq, best, cmin]

/-- The running column of the minimum after chunk 0. -/
theorem pay16_eq :
    k0_pay16 x0 x1 x3 (View.ld x4 (Rect.unit ![0, 0] ![1, 1024] inb_S1x8192_S1x1024_0_0))
      = (best (dist x0 x1 x3 x4) 0).2 := by
  simp only [k0_pay16, k0_pay15, pay14_eq]
  rfl

/-- The running row minimum after chunk 2. -/
theorem pay25_eq :
    k0_pay25 x1 (prod x0 x3) (best (dist x0 x1 x3 x4) 0).1 (chunk (dist x0 x1 x3 x4) 1) (View.ld x4 (Rect.unit ![0, 2048] ![1, 1024] inb_S1x8192_S1x1024_0_2048))
      = (best (dist x0 x1 x3 x4) 2).1 := by
  simp only [k0_pay25, k0_pay23, k0_pay22, k0_pay20, k0_pay19, k0_pay18, pay21_eq]
  rfl

/-- The running column of the minimum after chunk 2. -/
theorem pay24_eq :
    k0_pay24 x1 (prod x0 x3) (iota .tc S256x1024 32 [1] iota_S256x1024_d1_w32) (best (dist x0 x1 x3 x4) 0).1 (best (dist x0 x1 x3 x4) 0).2 (chunk (dist x0 x1 x3 x4) 1) (View.ld x4 (Rect.unit ![0, 2048] ![1, 1024] inb_S1x8192_S1x1024_0_2048))
      = (best (dist x0 x1 x3 x4) 2).2 := by
  simp only [k0_pay24, k0_pay23, k0_pay22, k0_pay20, k0_pay19, k0_pay18, pay21_eq]
  rfl

/-- The running row minimum after chunk 4. -/
theorem pay36_eq :
    k0_pay36 x1 (prod x0 x3) (best (dist x0 x1 x3 x4) 2).1 (k0_pay26 x1 (View.ld x4 (Rect.unit ![0, 3072] ![1, 1024] inb_S1x8192_S1x1024_0_3072))) (k0_pay27 (prod x0 x3)) (View.ld x4 (Rect.unit ![0, 4096] ![1, 1024] inb_S1x8192_S1x1024_0_4096))
      = (best (dist x0 x1 x3 x4) 4).1 := by
  simp only [k0_pay36, k0_pay34, k0_pay33, k0_pay31, k0_pay30, k0_pay29, pay28_eq, pay32_eq]
  rfl

/-- The running column of the minimum after chunk 4. -/
theorem pay35_eq :
    k0_pay35 x1 (prod x0 x3) (iota .tc S256x1024 32 [1] iota_S256x1024_d1_w32) (best (dist x0 x1 x3 x4) 2).2 (best (dist x0 x1 x3 x4) 2).1 (k0_pay26 x1 (View.ld x4 (Rect.unit ![0, 3072] ![1, 1024] inb_S1x8192_S1x1024_0_3072))) (k0_pay27 (prod x0 x3)) (View.ld x4 (Rect.unit ![0, 4096] ![1, 1024] inb_S1x8192_S1x1024_0_4096))
      = (best (dist x0 x1 x3 x4) 4).2 := by
  simp only [k0_pay35, k0_pay34, k0_pay33, k0_pay31, k0_pay30, k0_pay29, pay28_eq, pay32_eq]
  rfl

/-- The running row minimum after chunk 5. -/
theorem pay41_eq :
    k0_pay41 x1 (prod x0 x3) (best (dist x0 x1 x3 x4) 4).1 (View.ld x4 (Rect.unit ![0, 5120] ![1, 1024] inb_S1x8192_S1x1024_0_5120))
      = (best (dist x0 x1 x3 x4) 5).1 := by
  simp only [k0_pay41, k0_pay39, k0_pay38, pay37_eq]
  rfl

/-- The running column of the minimum after chunk 5. -/
theorem pay40_eq :
    k0_pay40 x1 (prod x0 x3) (iota .tc S256x1024 32 [1] iota_S256x1024_d1_w32) (best (dist x0 x1 x3 x4) 4).2 (best (dist x0 x1 x3 x4) 4).1 (View.ld x4 (Rect.unit ![0, 5120] ![1, 1024] inb_S1x8192_S1x1024_0_5120))
      = (best (dist x0 x1 x3 x4) 5).2 := by
  simp only [k0_pay40, k0_pay39, k0_pay38, pay37_eq]
  rfl

/-- The running row minimum after chunk 7. -/
theorem pay52_eq :
    k0_pay52 x1 (prod x0 x3) (best (dist x0 x1 x3 x4) 5).1 (k0_pay43 x1 (prod x0 x3) (View.ld x4 (Rect.unit ![0, 6144] ![1, 1024] inb_S1x8192_S1x1024_0_6144))) (View.ld x4 (Rect.unit ![0, 7168] ![1, 1024] inb_S1x8192_S1x1024_0_7168))
      = (best (dist x0 x1 x3 x4) 7).1 := by
  simp only [k0_pay52, k0_pay50, k0_pay49, k0_pay47, k0_pay46, k0_pay43, pay42_eq, pay48_eq]
  rfl

/-- The running column of the minimum after chunk 7. -/
theorem pay51_eq :
    k0_pay51 x1 (prod x0 x3) (iota .tc S256x1024 32 [1] iota_S256x1024_d1_w32) (best (dist x0 x1 x3 x4) 5).2 (best (dist x0 x1 x3 x4) 5).1 (k0_pay43 x1 (prod x0 x3) (View.ld x4 (Rect.unit ![0, 6144] ![1, 1024] inb_S1x8192_S1x1024_0_6144))) (k0_pay44 x1 (prod x0 x3) (iota .tc S256x1024 32 [1] iota_S256x1024_d1_w32) (View.ld x4 (Rect.unit ![0, 6144] ![1, 1024] inb_S1x8192_S1x1024_0_6144))) k0_pay45 (View.ld x4 (Rect.unit ![0, 7168] ![1, 1024] inb_S1x8192_S1x1024_0_7168))
      = (best (dist x0 x1 x3 x4) 7).2 := by
  simp only [k0_pay51, k0_pay50, k0_pay49, k0_pay47, k0_pay46, k0_pay45, k0_pay44, k0_pay43, pay42_eq, pay48_eq]
  rfl

/-! ## The stores of a grid point, read back -/

/-- Eight chunk stores that each hold a block's values where they lie leave the block. -/
theorem canon_eight (D : FVec F S256x8192 .f32) (p0 p1 p2 p3 p4 p5 p6 p7 : FVec F S256x1024 .f32)
    (h0 : ∀ y : S256x8192.Idx, View.TileAt (Val := Elt F) (e := EltTy.f32) y ![0, 0] ![256, 1024] p0 (D y))
    (h1 : ∀ y : S256x8192.Idx, View.TileAt (Val := Elt F) (e := EltTy.f32) y ![0, 1024] ![256, 1024] p1 (D y))
    (h2 : ∀ y : S256x8192.Idx, View.TileAt (Val := Elt F) (e := EltTy.f32) y ![0, 2048] ![256, 1024] p2 (D y))
    (h3 : ∀ y : S256x8192.Idx, View.TileAt (Val := Elt F) (e := EltTy.f32) y ![0, 3072] ![256, 1024] p3 (D y))
    (h4 : ∀ y : S256x8192.Idx, View.TileAt (Val := Elt F) (e := EltTy.f32) y ![0, 4096] ![256, 1024] p4 (D y))
    (h5 : ∀ y : S256x8192.Idx, View.TileAt (Val := Elt F) (e := EltTy.f32) y ![0, 5120] ![256, 1024] p5 (D y))
    (h6 : ∀ y : S256x8192.Idx, View.TileAt (Val := Elt F) (e := EltTy.f32) y ![0, 6144] ![256, 1024] p6 (D y))
    (h7 : ∀ y : S256x8192.Idx, View.TileAt (Val := Elt F) (e := EltTy.f32) y ![0, 7168] ![256, 1024] p7 (D y)) :
    View.canon (Val := Elt F) (s := S256x8192) (e := EltTy.f32)
      [⟨Rect.unit ![0, 7168] ![256, 1024] inb_S256x8192_S256x1024_0_7168, p7⟩,
       ⟨Rect.unit ![0, 6144] ![256, 1024] inb_S256x8192_S256x1024_0_6144, p6⟩,
       ⟨Rect.unit ![0, 5120] ![256, 1024] inb_S256x8192_S256x1024_0_5120, p5⟩,
       ⟨Rect.unit ![0, 4096] ![256, 1024] inb_S256x8192_S256x1024_0_4096, p4⟩,
       ⟨Rect.unit ![0, 3072] ![256, 1024] inb_S256x8192_S256x1024_0_3072, p3⟩,
       ⟨Rect.unit ![0, 2048] ![256, 1024] inb_S256x8192_S256x1024_0_2048, p2⟩,
       ⟨Rect.unit ![0, 1024] ![256, 1024] inb_S256x8192_S256x1024_0_1024, p1⟩,
       ⟨Rect.unit ![0, 0] ![256, 1024] inb_S256x8192_S256x1024_0_0, p0⟩]
      = D := by
  funext y
  refine View.canon_eq_of_allAt _ y _ (View.cover_of_tiled_head _ _ _ rfl y) ?_
  refine View.allAt_cons_unit _ _ _ _ _ (h7 y) ?_
  refine View.allAt_cons_unit _ _ _ _ _ (h6 y) ?_
  refine View.allAt_cons_unit _ _ _ _ _ (h5 y) ?_
  refine View.allAt_cons_unit _ _ _ _ _ (h4 y) ?_
  refine View.allAt_cons_unit _ _ _ _ _ (h3 y) ?_
  refine View.allAt_cons_unit _ _ _ _ _ (h2 y) ?_
  refine View.allAt_cons_unit _ _ _ _ _ (h1 y) ?_
  refine View.allAt_cons_unit _ _ _ _ _ (h0 y) ?_
  exact View.allAt_nil y _

/-- The eight chunks of a block fill the block. -/
theorem canon_chunks (D : FVec F S256x8192 .f32) :
    View.canon (Val := Elt F) (s := S256x8192) (e := EltTy.f32)
      [⟨Rect.unit ![0, 7168] ![256, 1024] inb_S256x8192_S256x1024_0_7168, chunk D 7⟩,
       ⟨Rect.unit ![0, 6144] ![256, 1024] inb_S256x8192_S256x1024_0_6144, chunk D 6⟩,
       ⟨Rect.unit ![0, 5120] ![256, 1024] inb_S256x8192_S256x1024_0_5120, chunk D 5⟩,
       ⟨Rect.unit ![0, 4096] ![256, 1024] inb_S256x8192_S256x1024_0_4096, chunk D 4⟩,
       ⟨Rect.unit ![0, 3072] ![256, 1024] inb_S256x8192_S256x1024_0_3072, chunk D 3⟩,
       ⟨Rect.unit ![0, 2048] ![256, 1024] inb_S256x8192_S256x1024_0_2048, chunk D 2⟩,
       ⟨Rect.unit ![0, 1024] ![256, 1024] inb_S256x8192_S256x1024_0_1024, chunk D 1⟩,
       ⟨Rect.unit ![0, 0] ![256, 1024] inb_S256x8192_S256x1024_0_0, chunk D 0⟩]
      = D :=
  canon_eight _ _ _ _ _ _ _ _ _ (fun y => chunk_tile _ y 0 0 rfl)
    (fun y => chunk_tile _ y 1 1024 rfl)
    (fun y => chunk_tile _ y 2 2048 rfl)
    (fun y => chunk_tile _ y 3 3072 rfl)
    (fun y => chunk_tile _ y 4 4096 rfl)
    (fun y => chunk_tile _ y 5 5120 rfl)
    (fun y => chunk_tile _ y 6 6144 rfl)
    (fun y => chunk_tile _ y 7 7168 rfl)

/-- The eight chunks of encodings fill the block of encodings of the running column. -/
theorem canon_hot :
    View.canon (Val := Elt F) (s := S256x8192) (e := EltTy.f32)
      [⟨Rect.unit ![0, 7168] ![256, 1024] inb_S256x8192_S256x1024_0_7168,
        k0_pay1 (iota .tc S256x1024 32 [1] iota_S256x1024_d1_w32) (best (dist x0 x1 x3 x4) 7).2 k0_pay60⟩,
       ⟨Rect.unit ![0, 6144] ![256, 1024] inb_S256x8192_S256x1024_0_6144,
        k0_pay59 (iota .tc S256x1024 32 [1] iota_S256x1024_d1_w32) (best (dist x0 x1 x3 x4) 7).2⟩,
       ⟨Rect.unit ![0, 5120] ![256, 1024] inb_S256x8192_S256x1024_0_5120,
        k0_pay58 (iota .tc S256x1024 32 [1] iota_S256x1024_d1_w32) (best (dist x0 x1 x3 x4) 7).2⟩,
       ⟨Rect.unit ![0, 4096] ![256, 1024] inb_S256x8192_S256x1024_0_4096,
        k0_pay57 (iota .tc S256x1024 32 [1] iota_S256x1024_d1_w32) (best (dist x0 x1 x3 x4) 7).2⟩,
       ⟨Rect.unit ![0, 3072] ![256, 1024] inb_S256x8192_S256x1024_0_3072,
        k0_pay56 (iota .tc S256x1024 32 [1] iota_S256x1024_d1_w32) (best (dist x0 x1 x3 x4) 7).2⟩,
       ⟨Rect.unit ![0, 2048] ![256, 1024] inb_S256x8192_S256x1024_0_2048,
        k0_pay55 (iota .tc S256x1024 32 [1] iota_S256x1024_d1_w32) (best (dist x0 x1 x3 x4) 7).2⟩,
       ⟨Rect.unit ![0, 1024] ![256, 1024] inb_S256x8192_S256x1024_0_1024,
        k0_pay54 x1 (prod x0 x3) (iota .tc S256x1024 32 [1] iota_S256x1024_d1_w32) (best (dist x0 x1 x3 x4) 5).2 (best (dist x0 x1 x3 x4) 5).1 (k0_pay43 x1 (prod x0 x3) (View.ld x4 (Rect.unit ![0, 6144] ![1, 1024] inb_S1x8192_S1x1024_0_6144))) (k0_pay44 x1 (prod x0 x3) (iota .tc S256x1024 32 [1] iota_S256x1024_d1_w32) (View.ld x4 (Rect.unit ![0, 6144] ![1, 1024] inb_S1x8192_S1x1024_0_6144))) k0_pay45 (View.ld x4 (Rect.unit ![0, 7168] ![1, 1024] inb_S1x8192_S1x1024_0_7168))⟩,
       ⟨Rect.unit ![0, 0] ![256, 1024] inb_S256x8192_S256x1024_0_0,
        k0_pay53 x1 (prod x0 x3) (iota .tc S256x1024 32 [1] iota_S256x1024_d1_w32) (best (dist x0 x1 x3 x4) 5).2 (best (dist x0 x1 x3 x4) 5).1 (k0_pay43 x1 (prod x0 x3) (View.ld x4 (Rect.unit ![0, 6144] ![1, 1024] inb_S1x8192_S1x1024_0_6144))) (k0_pay44 x1 (prod x0 x3) (iota .tc S256x1024 32 [1] iota_S256x1024_d1_w32) (View.ld x4 (Rect.unit ![0, 6144] ![1, 1024] inb_S1x8192_S1x1024_0_6144))) k0_pay45 (View.ld x4 (Rect.unit ![0, 7168] ![1, 1024] inb_S1x8192_S1x1024_0_7168))⟩]
      = hot (best (dist x0 x1 x3 x4) 7).2 := by
  simp only [k0_pay53, k0_pay54, k0_pay55, k0_pay56, k0_pay57, k0_pay58, k0_pay59, k0_pay1, k0_pay60]
  exact canon_eight _ _ _ _ _ _ _ _ _ (by rw [pay51_eq]; exact fun y => hot_tile _ y 0)
    (by rw [pay51_eq]; exact fun y => hot_tile _ y 1024)
    (fun y => hot_tile _ y 2048)
    (fun y => hot_tile _ y 3072)
    (fun y => hot_tile _ y 4096)
    (fun y => hot_tile _ y 5120)
    (fun y => hot_tile _ y 6144)
    (fun y => hot_tile _ y 7168)

/-- Reading the whole block of encodings after those stores gives the block of encodings. -/
theorem read_hot (v : View sig .tc .vmem S256x8192 .f32) (inb) :
    View.readCov (Val := Elt F) v
      [⟨Rect.unit ![0, 7168] ![256, 1024] inb_S256x8192_S256x1024_0_7168,
        k0_pay1 (iota .tc S256x1024 32 [1] iota_S256x1024_d1_w32) (best (dist x0 x1 x3 x4) 7).2 k0_pay60⟩,
       ⟨Rect.unit ![0, 6144] ![256, 1024] inb_S256x8192_S256x1024_0_6144,
        k0_pay59 (iota .tc S256x1024 32 [1] iota_S256x1024_d1_w32) (best (dist x0 x1 x3 x4) 7).2⟩,
       ⟨Rect.unit ![0, 5120] ![256, 1024] inb_S256x8192_S256x1024_0_5120,
        k0_pay58 (iota .tc S256x1024 32 [1] iota_S256x1024_d1_w32) (best (dist x0 x1 x3 x4) 7).2⟩,
       ⟨Rect.unit ![0, 4096] ![256, 1024] inb_S256x8192_S256x1024_0_4096,
        k0_pay57 (iota .tc S256x1024 32 [1] iota_S256x1024_d1_w32) (best (dist x0 x1 x3 x4) 7).2⟩,
       ⟨Rect.unit ![0, 3072] ![256, 1024] inb_S256x8192_S256x1024_0_3072,
        k0_pay56 (iota .tc S256x1024 32 [1] iota_S256x1024_d1_w32) (best (dist x0 x1 x3 x4) 7).2⟩,
       ⟨Rect.unit ![0, 2048] ![256, 1024] inb_S256x8192_S256x1024_0_2048,
        k0_pay55 (iota .tc S256x1024 32 [1] iota_S256x1024_d1_w32) (best (dist x0 x1 x3 x4) 7).2⟩,
       ⟨Rect.unit ![0, 1024] ![256, 1024] inb_S256x8192_S256x1024_0_1024,
        k0_pay54 x1 (prod x0 x3) (iota .tc S256x1024 32 [1] iota_S256x1024_d1_w32) (best (dist x0 x1 x3 x4) 5).2 (best (dist x0 x1 x3 x4) 5).1 (k0_pay43 x1 (prod x0 x3) (View.ld x4 (Rect.unit ![0, 6144] ![1, 1024] inb_S1x8192_S1x1024_0_6144))) (k0_pay44 x1 (prod x0 x3) (iota .tc S256x1024 32 [1] iota_S256x1024_d1_w32) (View.ld x4 (Rect.unit ![0, 6144] ![1, 1024] inb_S1x8192_S1x1024_0_6144))) k0_pay45 (View.ld x4 (Rect.unit ![0, 7168] ![1, 1024] inb_S1x8192_S1x1024_0_7168))⟩,
       ⟨Rect.unit ![0, 0] ![256, 1024] inb_S256x8192_S256x1024_0_0,
        k0_pay53 x1 (prod x0 x3) (iota .tc S256x1024 32 [1] iota_S256x1024_d1_w32) (best (dist x0 x1 x3 x4) 5).2 (best (dist x0 x1 x3 x4) 5).1 (k0_pay43 x1 (prod x0 x3) (View.ld x4 (Rect.unit ![0, 6144] ![1, 1024] inb_S1x8192_S1x1024_0_6144))) (k0_pay44 x1 (prod x0 x3) (iota .tc S256x1024 32 [1] iota_S256x1024_d1_w32) (View.ld x4 (Rect.unit ![0, 6144] ![1, 1024] inb_S1x8192_S1x1024_0_6144))) k0_pay45 (View.ld x4 (Rect.unit ![0, 7168] ![1, 1024] inb_S1x8192_S1x1024_0_7168))⟩]
      (Rect.unit ![0, 0] ![256, 8192] inb).toLoadRect = hot (best (dist x0 x1 x3 x4) 7).2 :=
  (View.readCov_eq_canon_ld _ _ _ (View.cover_of_tiled_head _ _ _ rfl)).trans
    ((View.ld_unit_lit (S := S256x8192) _ _ (by decide)).trans (canon_hot x0 x1 x3 x4))

/-! ## What is stored from the block of encodings and from the running minimum -/

/-- The straight-through block. -/
theorem pay3_eq (e : Vec F S256x8192 .f32) : k0_pay3 x0 e x2 = through x0 x2 e := by
  simp only [k0_pay3, k0_pay2, shapeCast_self]
  rfl

/-- The column sums at the first grid point. -/
theorem pay6_eq (e : Vec F S256x8192 .f32) : k0_pay6 e = count e := by
  simp only [k0_pay6, k0_pay5, k0_pay2, shapeCast_self]
  rfl

/-- The histogram so far plus the column sums, at a later grid point. -/
theorem pay8_eq (e : Vec F S256x8192 .f32) (h : Vec F S1x8192 .f32) : k0_pay8 e h = addf h (count e) := by
  simp only [k0_pay8, k0_pay5, k0_pay2, shapeCast_self]
  rfl

/-- The one cell of a 1 × 1 block, at any two of its indices. -/
theorem cell (x : Vec F S1x1 .f32) (i j : S1x1.Idx) : x i = x j :=
  congrArg x (funext fun a => match a with
    | ⟨0, _⟩ => Subsingleton.elim (α := Fin 1) _ _
    | ⟨1, _⟩ => Subsingleton.elim (α := Fin 1) _ _)

/-- The running sum so far plus the sum of a grid point's row minima, at a later grid point. -/
theorem pay7_eq (m : FVec F S256x1 .f32) (s : Vec F S1x1 .f32) (inb h) (y : S1x1.Idx) :
    k0_pay7 m (View.ld s (Rect.unit ![0, 0] ![1, 1] inb) (Shape.Idx.first h)) = Scalar.addf (s y) (total m) := by
  rw [View.ld_apply, cell s _ y]
  rfl

end Cert.Proof.Tile
-- ==== Proof.Point.lean ====
/-
  What each grid point leaves in its output blocks and in the two carried buffers.

  The kernel has three kinds of grid point: the first one (case A), which starts the running sum of row minima and the
  histogram; the middle ones (case B), which add to them; and the last one (case C), which adds to them and then also
  writes the loss and the perplexity. Every kind writes the distances, the straight-through block, the encodings and
  the indices. Each theorem reads one buffer after one kind of point as a function of the input blocks.
-/
module
public import Idealize.ShloMosaic.Lib.Pipeline.Value
public import proofs.«01_k».proof.Proof.Payload
@[expose] public section
set_option maxRecDepth 16384
noncomputable section
namespace Cert.Proof.Tile
open Cert.KernelIdeal Cert.KernelIdeal.Gen
open Idealize.ShloMosaic Idealize.ShloMosaic.TcCoe Idealize.ShloMosaic.Tactic
open Idealize.SL Idealize.SL.Sem Idealize.ShloMosaic.ValueIdx
variable {F : FTy → Type} [FloatOps F]
variable (c : Dev nD) (i : grid0.Coords)
variable (arg1 : Memref sig .tc .vmem S256x32 .f32) (harg1 : arg1.IsWhole)
variable (arg2 : Memref sig .tc .vmem S256x1 .f32) (harg2 : arg2.IsWhole)
variable (arg3 : Memref sig .tc .vmem S8192x32 .f32) (harg3 : arg3.IsWhole)
variable (arg4 : Memref sig .tc .vmem S32x8192 .f32) (harg4 : arg4.IsWhole)
variable (arg5 : Memref sig .tc .vmem S1x8192 .f32) (harg5 : arg5.IsWhole)
variable (arg6 : Memref sig .tc .vmem S256x8192 .f32) (harg6 : arg6.IsWhole)
variable (arg7 : Memref sig .tc .vmem S256x32 .f32) (harg7 : arg7.IsWhole)
variable (arg8 : Memref sig .tc .vmem S1x1 .f32) (harg8 : arg8.IsWhole)
variable (arg9 : Memref sig .tc .vmem S256x8192 .f32) (harg9 : arg9.IsWhole)
variable (arg10 : Memref sig .tc .vmem S256x1 .i32) (harg10 : arg10.IsWhole)
variable (arg11 : Memref sig .tc .vmem S1x1 .f32) (harg11 : arg11.IsWhole)
variable (arg12 : Memref sig .tc .smem S1x1 .f32) (harg12 : arg12.IsWhole)
variable (arg13 : Memref sig .tc .vmem S1x8192 .f32) (harg13 : arg13.IsWhole)
variable (x0 : Vec F S256x32 .f32) (x1 : Vec F S256x1 .f32) (x2 : Vec F S8192x32 .f32) (x3 : Vec F S32x8192 .f32) (x4 : Vec F S1x8192 .f32)
variable (xs0 : Vec F S1x1 .f32) (xs1 : Vec F S1x8192 .f32)
/-! ## Case A -/

/-- What the first grid point leaves: the block of distances. -/
theorem out_A_5 (hc0 : cond0_0 i) (hc1 : ¬cond0_1 i) (hc2 : ¬cond0_2 i) :
    out0_A_5 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4
      = dist x0 x1 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.readAt_eq_ld, harg1.read_unread, harg2.read_unread, harg3.read_unread, harg4.read_unread, harg5.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq, pay14_eq, pay21_eq, pay28_eq, pay32_eq, pay37_eq, pay42_eq, pay48_eq]
  exact canon_chunks _

/-- What the first grid point leaves: the straight-through block. -/
theorem out_A_6 (hc0 : cond0_0 i) (hc1 : ¬cond0_1 i) (hc2 : ¬cond0_2 i) :
    out0_A_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4
      = through x0 x2 (hot (best (dist x0 x1 x3 x4) 7).2) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.readAt_eq_ld, harg1.read_unread, harg2.read_unread, harg3.read_unread, harg4.read_unread, harg5.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  rw [read_hot x0 x1 x3 x4]
  exact (View.canon_cons_unit_lit (S := S256x32) _ _ _ (by decide)).trans (pay3_eq x0 x2 _)

/-- What the first grid point leaves: the one-hot rows of the chosen codes. -/
theorem out_A_8 (hc0 : cond0_0 i) (hc1 : ¬cond0_1 i) (hc2 : ¬cond0_2 i) :
    out0_A_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4
      = hot (best (dist x0 x1 x3 x4) 7).2 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.readAt_eq_ld, harg1.read_unread, harg2.read_unread, harg3.read_unread, harg4.read_unread, harg5.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  exact canon_hot x0 x1 x3 x4

/-- What the first grid point leaves: the chosen codes. -/
theorem out_A_9 (hc0 : cond0_0 i) (hc1 : ¬cond0_1 i) (hc2 : ¬cond0_2 i) :
    out0_A_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4
      = (best (dist x0 x1 x3 x4) 7).2 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.readAt_eq_ld, harg1.read_unread, harg2.read_unread, harg3.read_unread, harg4.read_unread, harg5.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  exact (View.canon_cons_unit_lit (S := S256x1) _ _ _ (by decide)).trans (rfl)

/-- What the first grid point leaves: the running sum of row minima, started with this block's sum. -/
theorem sout_A_0 (hc0 : cond0_0 i) (hc1 : ¬cond0_1 i) (hc2 : ¬cond0_2 i) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4
      = fun _ => total (best (dist x0 x1 x3 x4) 7).1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.readAt_eq_ld, harg1.read_unread, harg2.read_unread, harg3.read_unread, harg4.read_unread, harg5.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  exact (View.canon_cons_unit_lit (S := S1x1) _ _ _ (by decide)).trans (rfl)

/-- What the first grid point leaves: the histogram, started with this block's counts. -/
theorem sout_A_1 (hc0 : cond0_0 i) (hc1 : ¬cond0_1 i) (hc2 : ¬cond0_2 i) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4
      = count (hot (best (dist x0 x1 x3 x4) 7).2) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.readAt_eq_ld, harg1.read_unread, harg2.read_unread, harg3.read_unread, harg4.read_unread, harg5.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  rw [read_hot x0 x1 x3 x4]
  exact (View.canon_cons_unit_lit (S := S1x8192) _ _ _ (by decide)).trans (pay6_eq _)

/-! ## Case B -/

/-- What a middle grid point leaves: the block of distances. -/
theorem out_B_5 (hc0 : ¬cond0_0 i) (hc1 : cond0_1 i) (hc2 : ¬cond0_2 i) :
    out0_B_5 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = dist x0 x1 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_B
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq, pay14_eq, pay21_eq, pay28_eq, pay32_eq, pay37_eq, pay42_eq, pay48_eq]
  exact canon_chunks _

/-- What a middle grid point leaves: the straight-through block. -/
theorem out_B_6 (hc0 : ¬cond0_0 i) (hc1 : cond0_1 i) (hc2 : ¬cond0_2 i) :
    out0_B_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = through x0 x2 (hot (best (dist x0 x1 x3 x4) 7).2) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_B
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  rw [read_hot x0 x1 x3 x4]
  exact (View.canon_cons_unit_lit (S := S256x32) _ _ _ (by decide)).trans (pay3_eq x0 x2 _)

/-- What a middle grid point leaves: the one-hot rows of the chosen codes. -/
theorem out_B_8 (hc0 : ¬cond0_0 i) (hc1 : cond0_1 i) (hc2 : ¬cond0_2 i) :
    out0_B_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = hot (best (dist x0 x1 x3 x4) 7).2 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_B
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  exact canon_hot x0 x1 x3 x4

/-- What a middle grid point leaves: the chosen codes. -/
theorem out_B_9 (hc0 : ¬cond0_0 i) (hc1 : cond0_1 i) (hc2 : ¬cond0_2 i) :
    out0_B_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = (best (dist x0 x1 x3 x4) 7).2 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_B
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  exact (View.canon_cons_unit_lit (S := S256x1) _ _ _ (by decide)).trans (rfl)

/-- What a middle grid point leaves: the running sum of row minima, with this block's sum added. -/
theorem sout_B_0 (hc0 : ¬cond0_0 i) (hc1 : cond0_1 i) (hc2 : ¬cond0_2 i) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = fun y => Scalar.addf (xs0 y) (total (best (dist x0 x1 x3 x4) 7).1) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_B
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  exact (View.canon_cons_unit_lit (S := S1x1) _ _ _ (by decide)).trans (funext fun y => pay7_eq _ xs0 _ _ y)

/-- What a middle grid point leaves: the histogram, with this block's counts added. -/
theorem sout_B_1 (hc0 : ¬cond0_0 i) (hc1 : cond0_1 i) (hc2 : ¬cond0_2 i) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = addf xs1 (count (hot (best (dist x0 x1 x3 x4) 7).2)) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_B
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  rw [read_hot x0 x1 x3 x4]
  exact (View.canon_cons_unit_lit (S := S1x8192) _ _ _ (by decide)).trans (pay8_eq _ _)

/-! ## Case C -/

/-- What the last grid point leaves: the block of distances. -/
theorem out_C_5 (hc0 : ¬cond0_0 i) (hc1 : cond0_1 i) (hc2 : cond0_2 i) :
    out0_C_5 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = dist x0 x1 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_C
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq, pay14_eq, pay21_eq, pay28_eq, pay32_eq, pay37_eq, pay42_eq, pay48_eq]
  exact canon_chunks _

/-- What the last grid point leaves: the straight-through block. -/
theorem out_C_6 (hc0 : ¬cond0_0 i) (hc1 : cond0_1 i) (hc2 : cond0_2 i) :
    out0_C_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = through x0 x2 (hot (best (dist x0 x1 x3 x4) 7).2) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_C
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  rw [read_hot x0 x1 x3 x4]
  exact (View.canon_cons_unit_lit (S := S256x32) _ _ _ (by decide)).trans (pay3_eq x0 x2 _)

/-- What the last grid point leaves: the one-hot rows of the chosen codes. -/
theorem out_C_8 (hc0 : ¬cond0_0 i) (hc1 : cond0_1 i) (hc2 : cond0_2 i) :
    out0_C_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = hot (best (dist x0 x1 x3 x4) 7).2 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_C
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  exact canon_hot x0 x1 x3 x4

/-- What the last grid point leaves: the chosen codes. -/
theorem out_C_9 (hc0 : ¬cond0_0 i) (hc1 : cond0_1 i) (hc2 : cond0_2 i) :
    out0_C_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = (best (dist x0 x1 x3 x4) 7).2 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_C
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  exact (View.canon_cons_unit_lit (S := S256x1) _ _ _ (by decide)).trans (rfl)

/-- What the last grid point leaves: the running sum of row minima, with this block's sum added. -/
theorem sout_C_0 (hc0 : ¬cond0_0 i) (hc1 : cond0_1 i) (hc2 : cond0_2 i) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = fun y => Scalar.addf (xs0 y) (total (best (dist x0 x1 x3 x4) 7).1) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_C
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  exact (View.canon_cons_unit_lit (S := S1x1) _ _ _ (by decide)).trans (funext fun y => pay7_eq _ xs0 _ _ y)

/-- What the last grid point leaves: the histogram, with this block's counts added. -/
theorem sout_C_1 (hc0 : ¬cond0_0 i) (hc1 : cond0_1 i) (hc2 : cond0_2 i) :
    sout0_C_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = addf xs1 (count (hot (best (dist x0 x1 x3 x4) 7).2)) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_C
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  rw [read_hot x0 x1 x3 x4]
  exact (View.canon_cons_unit_lit (S := S1x8192) _ _ _ (by decide)).trans (pay8_eq _ _)

/-- What the last grid point leaves: the loss, of the running sum with this block in it. -/
theorem out_C_7 (hc0 : ¬cond0_0 i) (hc1 : cond0_1 i) (hc2 : cond0_2 i) :
    out0_C_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = k0_pay9 (Scalar.addf (xs0 (ix2 (0 : Fin 1) (0 : Fin 1))) (total (best (dist x0 x1 x3 x4) 7).1)) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_C
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  exact (View.canon_cons_unit_lit (S := S1x1) _ _ _ (by decide)).trans (congrArg k0_pay9 (pay7_eq _ xs0 _ _ _))

/-- What the last grid point leaves: the perplexity, of the histogram with this block in it. -/
theorem out_C_10 (hc0 : ¬cond0_0 i) (hc1 : cond0_1 i) (hc2 : cond0_2 i) :
    out0_C_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1
      = k0_pay10 (addf xs1 (count (hot (best (dist x0 x1 x3 x4) 7).2))) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 xs0 xs1)]
  unfold kernelRun0_C
  dsimp only
  sl_unfold_words
  simp only [View.readAt_eq_ld, harg1.read_unread, harg2.read_unread, harg3.read_unread, harg4.read_unread, harg5.read_unread, harg12.read_unread, harg13.read_unread, ld0, ld1, ld2, ld3, ld_hist, ld_cell, pay11_eq, pay12_eq, pay13_eq, pay15_eq, pay16_eq, pay17_eq, pay25_eq, pay24_eq, pay36_eq, pay35_eq, pay41_eq, pay40_eq, pay51_eq, pay52_eq]
  rw [pay24_eq, pay35_eq, pay40_eq, pay51_eq]
  rw [read_hot x0 x1 x3 x4, pay8_eq]
  exact (View.canon_cons_unit_lit (S := S1x1) _ _ _ (by decide)).trans (congrArg k0_pay10 (View.readCov_unit_lit (S := S1x8192) _ _ _ (by decide)))

end Cert.Proof.Tile
-- ==== Proof.Sweep.lean ====
/-
  The kernel's whole sweep over its 32 grid points: what the buffers hold after each of them.

  The distances, the straight-through block, the encodings and the indices of a grid point depend on that point's input
  blocks alone. The running sum and the histogram are carried, so they are sums over the points so far.
-/
module
public import proofs.«01_k».proof.Proof.Point

@[expose] public section

set_option maxRecDepth 16384

noncomputable section

namespace Cert.Proof.Sweep

open Cert.KernelIdeal Cert.KernelIdeal.Gen Cert.Proof.Tile
open Idealize.ShloMosaic Idealize.ShloMosaic.TcCoe Idealize.ShloMosaic.ValueIdx
open Idealize.SL Idealize.SL.Sem

variable {F : FTy → Type} [FloatOps F] (m : (ℓ : Loc nD τ sig) → Buf (Elt F) ℓ) (c : Dev nD)

/-- The distances of grid point `t`. -/
def blkDist (t : Fin cfg0.N) : FVec F S256x8192 .f32 :=
  Tile.dist (iblk m c 0 t) (iblk m c 1 t) (iblk m c 3 t) (iblk m c 4 t)

/-- The row minima of grid point `t`. -/
def blkMin (t : Fin cfg0.N) : FVec F S256x1 .f32 := (best (blkDist m c t) 7).1

/-- The indices of grid point `t`. -/
def blkIdx (t : Fin cfg0.N) : IVec S256x1 32 := (best (blkDist m c t) 7).2

/-- The sum of the row minima of grid points `0 … n`, in that order. -/
def sse : (n : ℕ) → n < cfg0.N → F .f32
  | 0, h => total (blkMin m c ⟨0, h⟩)
  | n + 1, h => Scalar.addf (sse n (by omega)) (total (blkMin m c ⟨n + 1, h⟩))

/-- The column sums of the encodings of grid points `0 … n`, in that order. -/
def hist : (n : ℕ) → n < cfg0.N → FVec F S1x8192 .f32
  | 0, h => count (hot (blkIdx m c ⟨0, h⟩))
  | n + 1, h => addf (hist n (by omega)) (count (hot (blkIdx m c ⟨n + 1, h⟩)))

/-- The three kinds of grid point. -/
theorem kinds (t : Fin cfg0.N) :
    (t.val % 32 = 0 ∧ ¬1 ≤ t.val ∧ ¬t.val % 32 = 31) ∨ (¬t.val % 32 = 0 ∧ 1 ≤ t.val ∧ ¬t.val % 32 = 31)
      ∨ (¬t.val % 32 = 0 ∧ 1 ≤ t.val ∧ t.val % 32 = 31) := by
  have h : t.val < 32 := t.isLt
  omega

/-- Each grid point leaves its distances. -/
theorem at_dist (t : Fin cfg0.N) : (outsAt0 m c t.val t.isLt).1 = blkDist m c t := by
  rcases kinds t with ⟨h0, h1, h2⟩ | ⟨h0, h1, h2⟩ | ⟨h0, h1, h2⟩
  · rw [outsAt0_A m c t h0 h1 h2]; dsimp only [blkMin, blkIdx, blkDist]; exact out_A_5 ..
  · rw [outsAt0_B m c t h0 h1 h2]; dsimp only [blkMin, blkIdx, blkDist]; exact out_B_5 ..
  · rw [outsAt0_C m c t h0 h1 h2]; dsimp only [blkMin, blkIdx, blkDist]; exact out_C_5 ..

/-- Each grid point leaves its straight-through block. -/
theorem at_through (t : Fin cfg0.N) : (outsAt0 m c t.val t.isLt).2.1
    = through (iblk m c 0 t) (iblk m c 2 t) (hot (blkIdx m c t)) := by
  rcases kinds t with ⟨h0, h1, h2⟩ | ⟨h0, h1, h2⟩ | ⟨h0, h1, h2⟩
  · rw [outsAt0_A m c t h0 h1 h2]; dsimp only [blkMin, blkIdx, blkDist]; exact out_A_6 ..
  · rw [outsAt0_B m c t h0 h1 h2]; dsimp only [blkMin, blkIdx, blkDist]; exact out_B_6 ..
  · rw [outsAt0_C m c t h0 h1 h2]; dsimp only [blkMin, blkIdx, blkDist]; exact out_C_6 ..

/-- Each grid point leaves its encodings. -/
theorem at_hot (t : Fin cfg0.N) : (outsAt0 m c t.val t.isLt).2.2.2.1 = hot (blkIdx m c t) := by
  rcases kinds t with ⟨h0, h1, h2⟩ | ⟨h0, h1, h2⟩ | ⟨h0, h1, h2⟩
  · rw [outsAt0_A m c t h0 h1 h2]; dsimp only [blkMin, blkIdx, blkDist]; exact out_A_8 ..
  · rw [outsAt0_B m c t h0 h1 h2]; dsimp only [blkMin, blkIdx, blkDist]; exact out_B_8 ..
  · rw [outsAt0_C m c t h0 h1 h2]; dsimp only [blkMin, blkIdx, blkDist]; exact out_C_8 ..

/-- Each grid point leaves its indices. -/
theorem at_idx (t : Fin cfg0.N) : (outsAt0 m c t.val t.isLt).2.2.2.2.1 = blkIdx m c t := by
  rcases kinds t with ⟨h0, h1, h2⟩ | ⟨h0, h1, h2⟩ | ⟨h0, h1, h2⟩
  · rw [outsAt0_A m c t h0 h1 h2]; dsimp only [blkMin, blkIdx, blkDist]; exact out_A_9 ..
  · rw [outsAt0_B m c t h0 h1 h2]; dsimp only [blkMin, blkIdx, blkDist]; exact out_B_9 ..
  · rw [outsAt0_C m c t h0 h1 h2]; dsimp only [blkMin, blkIdx, blkDist]; exact out_C_9 ..

/-- The first grid point leaves in the carried cell the sum of its row minima. -/
theorem sse_first (t : Fin cfg0.N) (ht : t.val = 0) :
    (outsAt0 m c t.val t.isLt).2.2.2.2.2.2.1 = fun _ => total (blkMin m c t) := by
  rw [outsAt0_A m c t (by omega) (by omega) (by omega)]; dsimp only [blkMin, blkIdx, blkDist]; exact sout_A_0 ..

/-- A later grid point adds the sum of its row minima to the carried cell. -/
theorem sse_step (t : Fin cfg0.N) (ht : 1 ≤ t.val) :
    (outsAt0 m c t.val t.isLt).2.2.2.2.2.2.1
      = fun y => Scalar.addf ((outsAt0 m c (t.val - 1) (by omega)).2.2.2.2.2.2.1 y) (total (blkMin m c t)) := by
  rcases kinds t with ⟨h0, h1, h2⟩ | ⟨h0, h1, h2⟩ | ⟨h0, h1, h2⟩
  · exact absurd ht h1
  · rw [outsAt0_B m c t h0 h1 h2]; dsimp only [blkMin, blkIdx, blkDist]; exact sout_B_0 ..
  · rw [outsAt0_C m c t h0 h1 h2]; dsimp only [blkMin, blkIdx, blkDist]; exact sout_C_0 ..

/-- The first grid point leaves its column sums in the carried row. -/
theorem hist_first (t : Fin cfg0.N) (ht : t.val = 0) :
    (outsAt0 m c t.val t.isLt).2.2.2.2.2.2.2 = count (hot (blkIdx m c t)) := by
  rw [outsAt0_A m c t (by omega) (by omega) (by omega)]; dsimp only [blkMin, blkIdx, blkDist]; exact sout_A_1 ..

/-- A later grid point adds its column sums to the carried row. -/
theorem hist_step (t : Fin cfg0.N) (ht : 1 ≤ t.val) :
    (outsAt0 m c t.val t.isLt).2.2.2.2.2.2.2
      = addf (outsAt0 m c (t.val - 1) (by omega)).2.2.2.2.2.2.2 (count (hot (blkIdx m c t))) := by
  rcases kinds t with ⟨h0, h1, h2⟩ | ⟨h0, h1, h2⟩ | ⟨h0, h1, h2⟩
  · exact absurd ht h1
  · rw [outsAt0_B m c t h0 h1 h2]; dsimp only [blkMin, blkIdx, blkDist]; exact sout_B_1 ..
  · rw [outsAt0_C m c t h0 h1 h2]; dsimp only [blkMin, blkIdx, blkDist]; exact sout_C_1 ..

/-- After grid point `n` the carried cell holds the sum of the row minima so far. -/
theorem at_sse (n : ℕ) (hn : n < cfg0.N) : (outsAt0 m c n hn).2.2.2.2.2.2.1 = fun _ => sse m c n hn := by
  induction n with
  | zero => exact sse_first m c ⟨0, hn⟩ rfl
  | succ n ih =>
    refine (sse_step m c ⟨n + 1, hn⟩ (Nat.le_add_left 1 n)).trans (funext fun y => ?_)
    exact congrArg (fun z => Scalar.addf z _) (congrFun (ih (Nat.lt_of_succ_lt hn)) y)

/-- After grid point `n` the carried row holds the column sums so far. -/
theorem at_hist (n : ℕ) (hn : n < cfg0.N) : (outsAt0 m c n hn).2.2.2.2.2.2.2 = hist m c n hn := by
  induction n with
  | zero => exact hist_first m c ⟨0, hn⟩ rfl
  | succ n ih =>
    refine (hist_step m c ⟨n + 1, hn⟩ (Nat.le_add_left 1 n)).trans ?_
    exact congrArg (fun z => addf z _) (ih (Nat.lt_of_succ_lt hn))

/-- The last grid point leaves the loss of the carried cell it ends with. -/
theorem loss_last (t : Fin cfg0.N) (ht : t.val = 31) :
    (outsAt0 m c t.val t.isLt).2.2.1
      = k0_pay9 ((outsAt0 m c t.val t.isLt).2.2.2.2.2.2.1 (ix2 (0 : Fin 1) (0 : Fin 1))) := by
  rw [sse_step m c t (by omega), outsAt0_C m c t (by omega) (by omega) (by omega)]
  dsimp only [blkMin, blkIdx, blkDist]
  exact out_C_7 ..

/-- The last grid point leaves the perplexity of the carried row it ends with. -/
theorem perp_last (t : Fin cfg0.N) (ht : t.val = 31) :
    (outsAt0 m c t.val t.isLt).2.2.2.2.2.1 = k0_pay10 (outsAt0 m c t.val t.isLt).2.2.2.2.2.2.2 := by
  rw [hist_step m c t (by omega), outsAt0_C m c t (by omega) (by omega) (by omega)]
  dsimp only [blkMin, blkIdx, blkDist]
  exact out_C_10 ..

/-- The last grid point leaves the loss of the whole running sum. -/
theorem at_loss (t : Fin cfg0.N) (ht : t.val = 31) :
    (outsAt0 m c t.val t.isLt).2.2.1 = k0_pay9 (sse m c t.val t.isLt) := by
  rw [loss_last m c t ht, at_sse]

/-- The last grid point leaves the perplexity of the whole histogram. -/
theorem at_perp (t : Fin cfg0.N) (ht : t.val = 31) :
    (outsAt0 m c t.val t.isLt).2.2.2.2.2.1 = k0_pay10 (hist m c t.val t.isLt) := by
  rw [perp_last m c t ht, at_hist]

end Cert.Proof.Sweep
-- ==== Proof.Blocks.lean ====
/-
  The kernel's input blocks at their coordinates: the operations before the kernel make the image points as rows, their
  squared norms, the codes' squared norms and the transposed codebook; grid point `t` holds the rows 256 t … 256 t + 255
  of the first two and the whole of the others.
-/
module
public import proofs.«01_k».proof.Proof.Sweep
public import proofs.«01_k».proof.Proof.Ref
public import Idealize.ShloMosaic.Lib.Pipeline.ValueKit

@[expose] public section

set_option maxRecDepth 16384

noncomputable section

namespace Cert.Proof.Blocks

open Cert.KernelIdeal Cert.KernelIdeal.Gen
open Idealize.ShloMosaic Idealize.ShloMosaic.TcCoe Idealize.ShloMosaic.StableHlo
open Idealize.SL Idealize.SL.Sem

variable {F : FTy → Type} [FloatOps F] (m : (ℓ : Loc nD τ sig) → Buf (Elt F) ℓ) (c : Dev nD)

/-- The image, as launched. -/
def img : FVec F S8x32x32x32 .f32 := m ((c : Thread nD τ).loc main_arg0)

/-- The codebook, as launched. -/
def codes : FVec F S8192x32 .f32 := m ((c : Thread nD τ).loc main_arg1)

/-- The row of the arrays that grid point `t` holds as its row `r`. -/
def row (t : Fin cfg0.N) (r : Fin 256) : Fin 8192 :=
  ⟨t.val * 256 + r.val, by have : t.val < 32 := t.isLt; have := r.isLt; omega⟩

/-! ## The arrays before the kernel -/

/-- The rows the kernel reads are the image points. -/
theorem V_rows : V m c main_v1 = Ref.flat (img m c) := by
  show after hostOps0 _ (main_v1 : DevRef τ sig) = _
  after_results
  rfl

/-- Their squared norms, as a column. -/
theorem V_rowSq : V m c main_v4 = broadcastInDim S8192x1 ![0] bcast_S8192_S8192x1_0 (Ref.rowSq (Ref.flat (img m c))) := by
  show after hostOps0 _ (main_v4 : DevRef τ sig) = _
  after_results
  rfl

/-- The codes' squared norms, as a row. -/
theorem V_codeSq : V m c main_v7 = broadcastInDim S1x8192 ![1] bcast_S8192_S1x8192_1 (Ref.rowSq (codes m c)) := by
  show after hostOps0 _ (main_v7 : DevRef τ sig) = _
  after_results
  rfl

/-- The transposed codebook. -/
theorem V_codesT : V m c main_v8 = transpose S32x8192 [1, 0] (codes m c) transposes_S8192x32_S32x8192_1_0 := by
  show after hostOps0 _ (main_v8 : DevRef τ sig) = _
  after_results
  rfl

/-! ## The blocks -/

/-- The image points' block index is the grid point's number, -/
theorem index_0 : ∀ t : Fin cfg0.N, win0_0.index t = ![t.val, 0] := (by decide +kernel : ∀ t : Fin grid0.N, _)
/-- so is their squared norms'; -/
theorem index_1 : ∀ t : Fin cfg0.N, win0_1.index t = ![t.val, 0] := (by decide +kernel : ∀ t : Fin grid0.N, _)
/-- the codebook is one block, -/
theorem index_2 : ∀ t : Fin cfg0.N, win0_2.index t = ![0, 0] := (by decide +kernel : ∀ t : Fin grid0.N, _)
/-- so is its transpose, -/
theorem index_3 : ∀ t : Fin cfg0.N, win0_3.index t = ![0, 0] := (by decide +kernel : ∀ t : Fin grid0.N, _)
/-- so are its squared norms. -/
theorem index_4 : ∀ t : Fin cfg0.N, win0_4.index t = ![0, 0] := (by decide +kernel : ∀ t : Fin grid0.N, _)
/-- The distances' block index is the grid point's number, -/
theorem index_5 : ∀ t : Fin cfg0.N, win0_5.index t = ![t.val, 0] := (by decide +kernel : ∀ t : Fin grid0.N, _)
/-- The loss is one block, -/
theorem index_7 : ∀ t : Fin cfg0.N, win0_7.index t = ![0, 0] := (by decide +kernel : ∀ t : Fin grid0.N, _)
/-- so is the perplexity. -/
theorem index_10 : ∀ t : Fin cfg0.N, win0_10.index t = ![0, 0] := (by decide +kernel : ∀ t : Fin grid0.N, _)
/-- The straight-through output's block index is the grid point's number, -/
theorem index_6 : ∀ t : Fin cfg0.N, win0_6.index t = ![t.val, 0] := (by decide +kernel : ∀ t : Fin grid0.N, _)
/-- so are the encodings' -/
theorem index_8 : ∀ t : Fin cfg0.N, win0_8.index t = ![t.val, 0] := (by decide +kernel : ∀ t : Fin grid0.N, _)
/-- and the indices'. -/
theorem index_9 : ∀ t : Fin cfg0.N, win0_9.index t = ![t.val, 0] := (by decide +kernel : ∀ t : Fin grid0.N, _)

/-- The image points of a grid point. -/
theorem iblk_rows (t : Fin cfg0.N) (r : Fin 256) (k : Fin 32) :
    (iblk m c 0 t : Vec F S256x32 .f32) (ix2 r k) = Ref.flat (img m c) (ix2 (row t r) k) := by
  have h : (iblk m c 0 t : Vec F S256x32 .f32) (ix2 r k) = V m c main_v1 ((win0_0.blk t).view.emb (ix2 r k)) := rfl
  rw [h, V_rows]
  refine congrArg (Ref.flat (img m c)) ?_
  blk_ext [index_0, row]

/-- Their squared norms. -/
theorem iblk_rowSq (t : Fin cfg0.N) (r : Fin 256) (z : Fin 1) :
    (iblk m c 1 t : Vec F S256x1 .f32) (ix2 r z)
      = broadcastInDim S8192x1 ![0] bcast_S8192_S8192x1_0 (Ref.rowSq (Ref.flat (img m c))) (ix2 (row t r) z) := by
  have h : (iblk m c 1 t : Vec F S256x1 .f32) (ix2 r z) = V m c main_v4 ((win0_1.blk t).view.emb (ix2 r z)) := rfl
  rw [h, V_rowSq]
  refine congrArg (broadcastInDim S8192x1 ![0] bcast_S8192_S8192x1_0 (Ref.rowSq (Ref.flat (img m c)))) ?_
  blk_ext [index_1, row]

/-- The codebook. -/
theorem iblk_codes (t : Fin cfg0.N) (k : Fin 8192) (d : Fin 32) :
    (iblk m c 2 t : Vec F S8192x32 .f32) (ix2 k d) = codes m c (ix2 k d) := by
  have h : (iblk m c 2 t : Vec F S8192x32 .f32) (ix2 k d) = V m c main_arg1 ((win0_2.blk t).view.emb (ix2 k d)) := rfl
  rw [h, V_main_arg1]
  refine congrArg (codes m c) ?_
  blk_ext [index_2]

/-- Its transpose. -/
theorem iblk_codesT (t : Fin cfg0.N) (d : Fin 32) (k : Fin 8192) :
    (iblk m c 3 t : Vec F S32x8192 .f32) (ix2 d k)
      = transpose S32x8192 [1, 0] (codes m c) transposes_S8192x32_S32x8192_1_0 (ix2 d k) := by
  have h : (iblk m c 3 t : Vec F S32x8192 .f32) (ix2 d k) = V m c main_v8 ((win0_3.blk t).view.emb (ix2 d k)) := rfl
  rw [h, V_codesT]
  refine congrArg (transpose S32x8192 [1, 0] (codes m c) transposes_S8192x32_S32x8192_1_0) ?_
  blk_ext [index_3]

/-- Its squared norms. -/
theorem iblk_codeSq (t : Fin cfg0.N) (z : Fin 1) (k : Fin 8192) :
    (iblk m c 4 t : Vec F S1x8192 .f32) (ix2 z k)
      = broadcastInDim S1x8192 ![1] bcast_S8192_S1x8192_1 (Ref.rowSq (codes m c)) (ix2 z k) := by
  have h : (iblk m c 4 t : Vec F S1x8192 .f32) (ix2 z k) = V m c main_v7 ((win0_4.blk t).view.emb (ix2 z k)) := rfl
  rw [h, V_codeSq]
  refine congrArg (broadcastInDim S1x8192 ![1] bcast_S8192_S1x8192_1 (Ref.rowSq (codes m c))) ?_
  blk_ext [index_4]

/-! ## The arrays after the kernel -/

/-- An array of distances whose rows are the grid points' is what the kernel leaves. -/
theorem arr_dist (g : FVec F S8192x8192 .f32)
    (hg : ∀ (t : Fin cfg0.N) (r : Fin 256) (k : Fin 8192), Sweep.blkDist m c t (ix2 r k) = g (ix2 (row t r) k)) :
    (dats m 0 c).arrAt 5 cfg0.N = g := by
  refine (dats m 0 c).arrAt_eq_of_covers 5 _ (by decide +kernel) fun t hf y => ?_
  blk_simp
  rw [after0_5, Sweep.at_dist]
  refine ((congrArg (Sweep.blkDist m c t) ?_).trans (hg t (y 0) (y 1))).trans (congrArg g ?_)
  · blk_ext
  · blk_ext [index_5, row]

/-- The same of the straight-through rows, -/
theorem arr_through (g : FVec F S8192x32 .f32)
    (hg : ∀ (t : Fin cfg0.N) (r : Fin 256) (k : Fin 32),
      Tile.through (iblk m c 0 t) (iblk m c 2 t) (Tile.hot (Sweep.blkIdx m c t)) (ix2 r k) = g (ix2 (row t r) k)) :
    (dats m 0 c).arrAt 6 cfg0.N = g := by
  refine (dats m 0 c).arrAt_eq_of_covers 6 _ (by decide +kernel) fun t hf y => ?_
  blk_simp
  rw [after0_6, Sweep.at_through]
  refine ((congrArg (Tile.through (iblk m c 0 t) (iblk m c 2 t) (Tile.hot (Sweep.blkIdx m c t))) ?_).trans (hg t (y 0) (y 1))).trans (congrArg g ?_)
  · blk_ext
  · blk_ext [index_6, row]

/-- of the encodings, -/
theorem arr_hot (g : FVec F S8192x8192 .f32)
    (hg : ∀ (t : Fin cfg0.N) (r : Fin 256) (k : Fin 8192),
      Tile.hot (F := F) (Sweep.blkIdx m c t) (ix2 r k) = g (ix2 (row t r) k)) :
    (dats m 0 c).arrAt 8 cfg0.N = g := by
  refine (dats m 0 c).arrAt_eq_of_covers 8 _ (by decide +kernel) fun t hf y => ?_
  blk_simp
  rw [after0_8, Sweep.at_hot]
  refine ((congrArg (Tile.hot (Sweep.blkIdx m c t)) ?_).trans (hg t (y 0) (y 1))).trans (congrArg g ?_)
  · blk_ext
  · blk_ext [index_8, row]

/-- and of the indices. -/
theorem arr_idx (g : IVec S8192x1 32)
    (hg : ∀ (t : Fin cfg0.N) (r : Fin 256), Sweep.blkIdx m c t (ix2 r (0 : Fin 1)) = g (ix2 (row t r) (0 : Fin 1))) :
    (dats m 0 c).arrAt 9 cfg0.N = g := by
  refine (dats m 0 c).arrAt_eq_of_covers 9 _ (by decide +kernel) fun t hf y => ?_
  blk_simp
  rw [after0_9, Sweep.at_idx]
  refine ((congrArg (Sweep.blkIdx m c t) ?_).trans (hg t (y 0))).trans (congrArg g ?_)
  · blk_ext
  · blk_ext [index_9, row]

/-- There are 32 grid points. -/
theorem last_lt : 31 < cfg0.N := by decide

/-- The last grid point. -/
def last : Fin cfg0.N := ⟨31, last_lt⟩

/-- The kernel leaves the loss of the last running sum, -/
theorem arr_loss : (dats m 0 c).arrAt 7 cfg0.N = k0_pay9 (Sweep.sse m c 31 last_lt) := by
  refine (dats m 0 c).arrAt_eq_of_covers 7 _ (by decide +kernel) fun t hf y => ?_
  have ht : t.val = 31 := by
    have := (flush0_7 t).1 hf
    have : t.val < 32 := t.isLt
    omega
  obtain rfl : t = last := Fin.ext ht
  blk_simp
  rw [after0_7, Sweep.at_loss m c _ ht]
  refine congrArg _ ?_
  blk_ext [index_7]

/-- and the perplexity of the last histogram. -/
theorem arr_perp : (dats m 0 c).arrAt 10 cfg0.N = k0_pay10 (Sweep.hist m c 31 last_lt) := by
  refine (dats m 0 c).arrAt_eq_of_covers 10 _ (by decide +kernel) fun t hf y => ?_
  have ht : t.val = 31 := by
    have := (flush0_10 t).1 hf
    have : t.val < 32 := t.isLt
    omega
  obtain rfl : t = last := Fin.ext ht
  blk_simp
  rw [after0_10, Sweep.at_perp m c _ ht]
  refine congrArg _ ?_
  blk_ext [index_10]

end Cert.Proof.Blocks

end
-- ==== Proof.Run.lean ====
/-
  The run of the kernel program: its entry point prepares the kernel's inputs, sweeps the kernel over its grid and brings
  two of its outputs to the results' shapes. The theorem states what the six result buffers hold in terms of the arrays
  the sweep leaves.
-/
module
public import proofs.«01_k».proof.Proof.Blocks

@[expose] public section

noncomputable section

namespace Cert.Proof.Run

open Cert.KernelIdeal Cert.KernelIdeal.Gen
open Idealize.ShloMosaic Idealize.ShloMosaic.TcCoe Idealize.ShloMosaic.StableHlo
open Idealize.SL Idealize.SL.Sem

variable {F : FTy → Type} [FloatOps F] (m : (ℓ : Loc nD τ sig) → Buf (Elt F) ℓ) (ρ : Dev nD → PrngReg) (c : Dev nD)

/-- No two windows of the kernel share an array. -/
theorem arr_inj : Function.Injective (Pipeline.arrRef spec0) := by decide

/-- The buffers after the sweep and before the last operations. -/
abbrev swept : Valuation τ sig (Elt F) :=
  Pipeline.withArrays spec0 c (V0 m c) fun w => (dats m 0 c).arrAt w cfg0.N

/-- After the last operations the straight-through rows stand in the image's shape, channel axis second, -/
theorem tail_through : Pipeline.afterTail₀ cfgs (dats m) 0 (V0 m) [hostOps1] c main_v11
    = transpose S8x32x32x32 [0, 3, 1, 2] (shapeCast S8x32x32x32 ((dats m 0 c).arrAt 6 cfg0.N : FVec F S8192x32 .f32)
        shapeCasts_S8192x32_S8x32x32x32) transposes_S8x32x32x32_S8x32x32x32_0_3_1_2 := by
  have e : swept m c (Proc.devRef .tc main_v9_1) = (dats m 0 c).arrAt 6 cfg0.N := Pipeline.withArrays_arr spec0 arr_inj c (V0 m c) _ 6
  show after hostOps1 (swept m c) (main_v11 : DevRef τ sig) = _
  rw [← e]
  after_results
  rfl

/-- the loss is a scalar, -/
theorem tail_loss : Pipeline.afterTail₀ cfgs (dats m) 0 (V0 m) [hostOps1] c main_v12
    = shapeCast S_ ((dats m 0 c).arrAt 7 cfg0.N : FVec F S1x1 .f32) shapeCasts_S1x1_S_ := by
  have e : swept m c (Proc.devRef .tc main_v9_2) = (dats m 0 c).arrAt 7 cfg0.N := Pipeline.withArrays_arr spec0 arr_inj c (V0 m c) _ 7
  show after hostOps1 (swept m c) (main_v12 : DevRef τ sig) = _
  rw [← e]
  after_results
  rfl

/-- and so is the perplexity. -/
theorem tail_perp : Pipeline.afterTail₀ cfgs (dats m) 0 (V0 m) [hostOps1] c main_v13
    = shapeCast S_ ((dats m 0 c).arrAt 10 cfg0.N : FVec F S1x1 .f32) shapeCasts_S1x1_S_ := by
  have e : swept m c (Proc.devRef .tc main_v9_5) = (dats m 0 c).arrAt 10 cfg0.N := Pipeline.withArrays_arr spec0 arr_inj c (V0 m c) _ 10
  show after hostOps1 (swept m c) (main_v13 : DevRef τ sig) = _
  rw [← e]
  after_results
  rfl

/-- From any memory with zero counters, every fair execution ends, with the six results read off the arrays the sweep
    leaves and the arguments unchanged. -/
theorem run_main : θ_run defs (onTc (τ := τ) (main (F := F))) ⟨m, fun _ => 0, ρ⟩ fun r => ∀ c : Dev nD,
    r.2.mem ((c.tc : Thread nD τ).loc main_v9_0) = (dats m 0 c).arrAt 5 cfg0.N
    ∧ r.2.mem ((c.tc : Thread nD τ).loc main_v11)
        = transpose S8x32x32x32 [0, 3, 1, 2] (shapeCast S8x32x32x32 ((dats m 0 c).arrAt 6 cfg0.N : FVec F S8192x32 .f32)
            shapeCasts_S8192x32_S8x32x32x32) transposes_S8x32x32x32_S8x32x32x32_0_3_1_2
    ∧ r.2.mem ((c.tc : Thread nD τ).loc main_v12)
        = shapeCast S_ ((dats m 0 c).arrAt 7 cfg0.N : FVec F S1x1 .f32) shapeCasts_S1x1_S_
    ∧ r.2.mem ((c.tc : Thread nD τ).loc main_v9_3) = (dats m 0 c).arrAt 8 cfg0.N
    ∧ r.2.mem ((c.tc : Thread nD τ).loc main_v9_4) = (dats m 0 c).arrAt 9 cfg0.N
    ∧ r.2.mem ((c.tc : Thread nD τ).loc main_v13)
        = shapeCast S_ ((dats m 0 c).arrAt 10 cfg0.N : FVec F S1x1 .f32) shapeCasts_S1x1_S_
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨(h c).1 5,
     ((h c).2 main_v11 (Pipeline.mem_restRefs_of main_v11 (by decide) (by decide))).trans (tail_through m c),
     ((h c).2 main_v12 (Pipeline.mem_restRefs_of main_v12 (by decide) (by decide))).trans (tail_loss m c),
     (h c).1 8, (h c).1 9,
     ((h c).2 main_v13 (Pipeline.mem_restRefs_of main_v13 (by decide) (by decide))).trans (tail_perp m c),
     ((h c).2 main_arg0 (Pipeline.mem_restRefs_of main_arg0 (by decide) (by decide))).trans (W_main_arg0 m (dats m) c),
     ((h c).1 2).trans (((dats m 0 c).arrAt_in 2 rfl _).trans ((A_eq m c 2).trans (V_main_arg1 m c)))⟩)
    (Cert.KernelIdeal.Gen.run_main m ρ)

end Cert.Proof.Run

end
-- ==== Proof.First.lean ====
/-
  The first least value of a stretch of numbers, and the three ways in which the two programs find it: the minimum of a
  chunk with the least column attaining it; the running pair that a later chunk replaces when it is strictly smaller; and
  a fold of (value, column) pairs that keeps the lexicographically smaller one.
-/
module
public import Idealize.ShloMosaic.PureOps.Ideal
public import Idealize.ShloMosaic.PureOps.Ideal.Laws
public import Idealize.ShloMosaic.PureOps.Reduce
public import proofs.«01_k».proof.ReferenceIdeal

@[expose] public section

noncomputable section

namespace Cert.Proof.First

open Idealize.ShloMosaic

/-- `v`, at `k`, is the first least value of `f` on `[a, b)`. -/
structure First (f : ℕ → EReal) (a b : ℕ) (v : EReal) (k : ℕ) : Prop where
  ge : a ≤ k
  lt : k < b
  val : f k = v
  le : ∀ j, a ≤ j → j < b → v ≤ f j
  before : ∀ j, a ≤ j → j < k → v < f j

variable {f : ℕ → EReal} {a b c : ℕ} {v v' : EReal} {k k' : ℕ}

/-- There is one first least value and one place of it. -/
theorem First.unique (h : First f a b v k) (h' : First f a b v' k') : v = v' ∧ k = k' := by
  have e : v = v' := le_antisymm (h'.val ▸ h.le k' h'.ge h'.lt) (h.val ▸ h'.le k h.ge h.lt)
  refine ⟨e, ?_⟩
  rcases lt_trichotomy k k' with g | g | g
  · exact absurd (h'.before k h.ge g) (by rw [h.val, e]; exact lt_irrefl _)
  · exact g
  · exact absurd (h.before k' h'.ge g) (by rw [h'.val, e]; exact lt_irrefl _)

/-- Of two adjoining stretches the later one's pair is taken when it is strictly smaller. -/
theorem First.join (h : First f a b v k) (h' : First f b c v' k') :
    First f a c (if v' < v then v' else v) (if v' < v then k' else k) := by
  have hab := h.ge
  have hb := h.lt
  have hb' := h'.ge
  have hc := h'.lt
  split_ifs with g
  · refine ⟨by omega, hc, h'.val, fun j ha hj => ?_, fun j ha hj => ?_⟩
    · rcases lt_or_ge j b with q | q
      · exact g.le.trans (h.le j ha q)
      · exact h'.le j q hj
    · rcases lt_or_ge j b with q | q
      · exact g.trans_le (h.le j ha q)
      · exact h'.before j q hj
  · refine ⟨hab, by omega, h.val, fun j ha hj => ?_, h.before⟩
    rcases lt_or_ge j b with q | q
    · exact h.le j ha q
    · exact (not_lt.1 g).trans (h'.le j q hj)

/-- The signed value of a small word is the number. -/
theorem toInt_small (n : ℕ) (h : n < 2 ^ 31) : (BitVec.ofNat 32 n).toInt = (n : ℤ) := by
  rw [BitVec.toInt_eq_toNat_of_lt (by rw [BitVec.toNat_ofNat]; omega), BitVec.toNat_ofNat]
  omega

/-- The signed value of the smaller word is the smaller signed value. -/
theorem toInt_minsi (x y : BitVec 32) : (IntOp.minsi x y).toInt = min x.toInt y.toInt := by
  unfold IntOp.minsi
  have := BitVec.slt_iff_toInt_lt (x := x) (y := y)
  split_ifs with h
  · exact (min_eq_left (this.1 h).le).symm
  · exact (min_eq_right (not_lt.1 fun g => h (this.2 g))).symm

/-- A chunk: the minimum `m` of its values, and the least column number among those of the columns that attain `m`
    (the others count as a large number), are its first least value. -/
theorem chunk {n : ℕ} (hn : 0 < n) (hn' : n ≤ 8192) (g : Fin n → EReal) (m : EReal) (w : BitVec 32)
    (hm : m = (Finset.univ : Finset (Fin n)).fold min ⊤ g)
    (hw : w = (Finset.univ : Finset (Fin n)).fold IntOp.minsi 2147483647#32
      fun i => if g i = m then BitVec.ofNat 32 i.val else 8192#32) :
    ∃ k : Fin n, w = BitVec.ofNat 32 k.val ∧ g k = m ∧ (∀ j, m ≤ g j) ∧ ∀ j, j < k → m < g j := by
  have hle : ∀ j, m ≤ g j := fun j => by
    have := (Finset.le_fold_min (s := (Finset.univ : Finset (Fin n))) (b := (⊤ : EReal)) (f := g) m).1 hm.le
    exact this.2 j (Finset.mem_univ j)
  have hat : ∃ j, g j = m := by
    rcases (Finset.fold_min_le (s := (Finset.univ : Finset (Fin n))) (b := (⊤ : EReal)) (f := g) m).1 hm.ge with h | ⟨j, -, h⟩
    · exact ⟨⟨0, hn⟩, le_antisymm (le_top.trans h) (hle _)⟩
    · exact ⟨j, le_antisymm h (hle j)⟩
  obtain ⟨k, hk, hmin⟩ : ∃ k : Fin n, g k = m ∧ ∀ j, j < k → g j ≠ m := by
    classical
    have hs : (Finset.univ.filter fun j => g j = m).Nonempty := hat.imp fun j h => by simp [h]
    refine ⟨(Finset.univ.filter fun j => g j = m).min' hs, ?_, fun j hj h => ?_⟩
    · have := Finset.min'_mem _ hs
      simpa using this
    · exact absurd (Finset.min'_le _ j (by simp [h])) (not_le.2 hj)
  refine ⟨k, ?_, hk, hle, fun j hj => lt_of_le_of_ne (hle j) (hmin j hj).symm⟩
  have key : w.toInt = (Finset.univ : Finset (Fin n)).fold min (2147483647#32 : BitVec 32).toInt
      fun i => (if g i = m then BitVec.ofNat 32 i.val else 8192#32 : BitVec 32).toInt := by
    rw [hw]
    exact (Finset.fold_hom (op := IntOp.minsi) (op' := min) (m := BitVec.toInt) toInt_minsi).symm
  have hkn : k.val < n := k.isLt
  have each : ∀ i : Fin n, (k.val : ℤ) ≤ (if g i = m then BitVec.ofNat 32 i.val else 8192#32 : BitVec 32).toInt := by
    intro i
    split_ifs with h
    · rw [toInt_small _ (by omega)]
      have : ¬ i < k := fun q => hmin i q h
      have : k.val ≤ i.val := not_lt.1 this
      omega
    · rw [show (8192#32 : BitVec 32) = BitVec.ofNat 32 8192 from rfl, toInt_small _ (by norm_num)]
      omega
  refine BitVec.eq_of_toInt_eq (le_antisymm ?_ ?_)
  · rw [key, toInt_small _ (by omega), Finset.fold_min_le]
    refine .inr ⟨k, Finset.mem_univ k, ?_⟩
    rw [if_pos hk, toInt_small _ (by omega)]
  · rw [key, toInt_small _ (by omega), Finset.le_fold_min]
    refine ⟨?_, fun i _ => each i⟩
    rw [show (2147483647#32 : BitVec 32) = BitVec.ofNat 32 2147483647 from rfl, toInt_small _ (by norm_num)]
    omega

/-- One pair comes no later than the other: smaller value, or the same value and no larger column. -/
def Before (p q : EReal × BitVec 32) : Prop := p.1 < q.1 ∨ (p.1 = q.1 ∧ p.2.toInt ≤ q.2.toInt)

/-- The relation of pairs is transitive. -/
theorem Before.trans {p q r : EReal × BitVec 32} (h : Before p q) (h' : Before q r) : Before p r := by
  rcases h with h | ⟨h, g⟩ <;> rcases h' with h' | ⟨h', g'⟩
  · exact .inl (h.trans h')
  · exact .inl (h' ▸ h)
  · exact .inl (h ▸ h')
  · exact .inr ⟨h.trans h', g.trans g'⟩

/-- The reference's reducer gives one of its two pairs, and that one comes before both. -/
theorem reducer (p q : Ideal .f32 × BitVec 32) :
    (Cert.ReferenceIdeal.reducer_argmin_f32_i32 (F := Ideal) p q = p ∧ Before p q)
      ∨ (Cert.ReferenceIdeal.reducer_argmin_f32_i32 (F := Ideal) p q = q ∧ Before q p) := by
  obtain ⟨x, i⟩ := p
  obtain ⟨y, j⟩ := q
  have hs := BitVec.slt_iff_toInt_lt (x := i) (y := j)
  have hred : Cert.ReferenceIdeal.reducer_argmin_f32_i32 (F := Ideal) (x, i) (y, j)
      = ((if (x : EReal) < y then x else y), if (x : EReal) < y ∨ ((x : EReal) = y ∧ i.slt j = true) then i else j) := by
    unfold Cert.ReferenceIdeal.reducer_argmin_f32_i32
    simp only [Ideal.cmpf_def, Ideal.cmp, IntOp.cmpi, IntOp.ori, IntOp.andi, Scalar.select]
    have w1 : ∀ u v : Bool, v = false → ((BitVec.ofBool u ||| BitVec.ofBool v) = 1 ↔ u = true) := by decide
    have w2 : ∀ u v w z : Bool, v = false → ((BitVec.ofBool u ||| BitVec.ofBool v ||| (BitVec.ofBool w &&& BitVec.ofBool z)) = 1
      ↔ (u = true ∨ (w = true ∧ z = true))) := by decide
    have hx : (decide ((x : EReal) ≠ x)) = false := decide_eq_false fun h => h rfl
    exact Prod.ext (if_congr ((w1 _ _ hx).trans decide_eq_true_iff) rfl rfl)
      (if_congr ((w2 _ _ _ _ hx).trans (or_congr decide_eq_true_iff (and_congr_left' decide_eq_true_iff))) rfl rfl)
  rw [hred]
  unfold Before
  rcases lt_trichotomy (α := EReal) x y with h | h | h
  · exact .inl ⟨by rw [if_pos h, if_pos (Or.inl h)], .inl h⟩
  · subst h
    by_cases g : i.toInt < j.toInt
    · exact .inl ⟨by rw [ite_self, if_pos (Or.inr ⟨rfl, hs.2 g⟩)], .inr ⟨rfl, g.le⟩⟩
    · refine .inr ⟨?_, .inr ⟨rfl, not_lt.1 g⟩⟩
      rw [ite_self, if_neg]
      rintro (q | ⟨-, q⟩)
      · exact lt_irrefl _ q
      · exact g (hs.1 q)
  · refine .inr ⟨?_, .inl h⟩
    rw [if_neg h.not_gt, if_neg]
    rintro (q | ⟨q, -⟩)
    · exact h.not_gt q
    · exact h.ne' q

/-- Folding the reducer gives one of the pairs met, and that one comes before all of them. -/
theorem fold (l : List (Ideal .f32 × BitVec 32)) (p : Ideal .f32 × BitVec 32) :
    (l.foldl (Cert.ReferenceIdeal.reducer_argmin_f32_i32 (F := Ideal)) p = p
        ∨ l.foldl (Cert.ReferenceIdeal.reducer_argmin_f32_i32 (F := Ideal)) p ∈ l)
      ∧ Before (l.foldl (Cert.ReferenceIdeal.reducer_argmin_f32_i32 (F := Ideal)) p) p
      ∧ ∀ q ∈ l, Before (l.foldl (Cert.ReferenceIdeal.reducer_argmin_f32_i32 (F := Ideal)) p) q := by
  induction l generalizing p with
  | nil => exact ⟨.inl rfl, .inr ⟨rfl, le_refl _⟩, fun q h => absurd h (List.not_mem_nil)⟩
  | cons q l ih =>
    rw [List.foldl_cons]
    obtain ⟨h1, h2, h3⟩ := ih (Cert.ReferenceIdeal.reducer_argmin_f32_i32 (F := Ideal) p q)
    rcases reducer p q with ⟨e, hb⟩ | ⟨e, hb⟩ <;> rw [e] at h1 h2 h3 ⊢
    · refine ⟨h1.imp_right (List.mem_cons_of_mem _), h2, fun r hr => ?_⟩
      rcases List.mem_cons.1 hr with rfl | hr
      · exact h2.trans hb
      · exact h3 r hr
    · refine ⟨.inr (h1.elim (fun h => List.mem_cons.2 (.inl h)) (List.mem_cons_of_mem _)), h2.trans hb, fun r hr => ?_⟩
      rcases List.mem_cons.1 hr with rfl | hr
      · exact h2
      · exact h3 r hr

/-- A fold from (+∞, column 0) over a row's pairs, in any order, ends at the row's first least value. -/
theorem row (l : List (Ideal .f32 × BitVec 32)) (f : ℕ → EReal) (n : ℕ) (hn : 0 < n) (hn' : n ≤ 8192)
    (hl : ∀ p, p ∈ l ↔ ∃ k, k < n ∧ p = (f k, BitVec.ofNat 32 k)) (r : Ideal .f32 × BitVec 32)
    (hr : r = l.foldl (Cert.ReferenceIdeal.reducer_argmin_f32_i32 (F := Ideal)) ((⊤ : EReal), 0#32)) :
    ∃ k, r.2 = BitVec.ofNat 32 k ∧ First f 0 n r.1 k := by
  obtain ⟨h1, -, h3⟩ := fold l ((⊤ : EReal), 0#32)
  rw [← hr] at h1 h3
  have all : ∀ j, j < n → Before r (f j, BitVec.ofNat 32 j) := fun j hj => h3 _ ((hl _).2 ⟨j, hj, rfl⟩)
  have hle : ∀ j, j < n → r.1 ≤ f j := fun j hj => (all j hj).elim le_of_lt fun h => h.1.le
  rcases h1 with h1 | h1
  · refine ⟨0, by rw [h1], ⟨le_refl _, hn, ?_, fun j _ hj => hle j hj, fun j _ hj => absurd hj (Nat.not_lt_zero _)⟩⟩
    have := hle 0 hn
    rw [h1] at this ⊢
    exact top_le_iff.1 this
  · obtain ⟨k, hk, e⟩ := (hl r).1 h1
    refine ⟨k, by rw [e], ⟨Nat.zero_le _, hk, by rw [e], fun j _ hj => hle j hj, fun j _ hj => ?_⟩⟩
    rcases all j (hj.trans hk) with h | ⟨-, h⟩
    · exact h
    · rw [e] at h
      simp only [] at h
      rw [toInt_small _ (by omega), toInt_small _ (by omega)] at h
      omega

end Cert.Proof.First

end
-- ==== Proof.Entry.lean ====
/-
  The entries of both programs' intermediate arrays over the extended reals, one operation of the problem at a time: a
  distance, a chunk's minimum and its column, a column sum, a straight-through entry, the sums behind the loss and the
  perplexity.
-/
module
public import proofs.«01_k».proof.Proof.Tile
public import proofs.«01_k».proof.Proof.Ref
public import Idealize.ShloMosaic.Lib.Pointwise

@[expose] public section

noncomputable section

namespace Cert.Proof.Entry

open Idealize.ShloMosaic

/-! ## The numbers the literals are -/

/-- The largest word is +∞. -/
theorem lit_top : Ideal.ofBits .f32 0x7F800000#32 = ⊤ := by simp [Ideal.ofBits, Ideal.ieee]

/-- The factor of the product is 2. -/
theorem lit_two : Ideal.ofBits .f32 0x40000000#32 = ((2 : ℝ) : EReal) := by
  simp [Ideal.ofBits, Ideal.ieee, -EReal.coe_mul]; norm_num

/-- The number of image points is 8192, -/
theorem lit_points : Ideal.ofBits .f32 0x46000000#32 = ((8192 : ℝ) : EReal) := by
  simp [Ideal.ofBits, Ideal.ieee, -EReal.coe_mul]; norm_num

/-- and the kernel's factor for it is its reciprocal. -/
theorem lit_share : Ideal.ofBits .f32 0x39000000#32 = ((1 / 8192 : ℝ) : EReal) := by
  simp [Ideal.ofBits, Ideal.ieee, -EReal.coe_mul]; norm_num

section kernel

open Cert.KernelIdeal Cert.KernelIdeal.Gen

/-- A chunk's row minimum. -/
theorem cmin_apply (d : FVec Ideal S256x1024 .f32) (r : Fin 256) (z : Fin 1) :
    Tile.cmin d (ix2 r z) = (Finset.univ : Finset (Fin 1024)).fold min ⊤ fun c => d (ix2 r c) := by
  pointwise [Tile.cmin]
  rw [lit_top]

/-- The column of a chunk's row minimum: the least of the columns that attain it, counted from the chunk's first. -/
theorem cidx_apply (d : FVec Ideal S256x1024 .f32) (o : BitVec 32) (r : Fin 256) (z : Fin 1) :
    Tile.cidx d o (ix2 r z) = (Finset.univ : Finset (Fin 1024)).fold IntOp.minsi 2147483647#32
      (fun c => if d (ix2 r c) = Tile.cmin d (ix2 r 0) then BitVec.ofNat 32 c.val else 8192#32) + o := by
  pointwise [Tile.cidx]
  rfl

/-- A distance of the kernel. -/
theorem dist_apply (x0 : Vec Ideal S256x32 .f32) (x1 : Vec Ideal S256x1 .f32) (x3 : Vec Ideal S32x8192 .f32)
    (x4 : Vec Ideal S1x8192 .f32) (r : Fin 256) (c : Fin 8192) :
    Tile.dist x0 x1 x3 x4 (ix2 r c) = (x1 (ix2 r 0) + x4 (ix2 0 c))
      - Ideal.ofBits .f32 0x40000000#32 * ∑ k : Fin 32, x0 (ix2 r k) * x3 (ix2 k c) := by
  pointwise [Tile.dist, Tile.prod]
  simp only [← ix2_eq_valueIdx]

/-- A column sum of a block of encodings. -/
theorem count_apply (e : FVec Ideal S256x8192 .f32) (z : Fin 1) (c : Fin 8192) :
    Tile.count e (ix2 z c) = ∑ r : Fin 256, e (ix2 r c) := by
  pointwise [Tile.count]

/-- A straight-through entry of the kernel. -/
theorem through_apply (x0 : Vec Ideal S256x32 .f32) (x2 : Vec Ideal S8192x32 .f32) (e : FVec Ideal S256x8192 .f32)
    (r : Fin 256) (d : Fin 32) :
    Tile.through x0 x2 e (ix2 r d)
      = x0 (ix2 r d) + ((∑ c : Fin 8192, e (ix2 r c) * x2 (ix2 c d)) - x0 (ix2 r d)) := by
  pointwise [Tile.through]

/-- The sum of a grid point's row minima. -/
theorem total_apply (m : FVec Ideal S256x1 .f32) : Tile.total m = ∑ r : Fin 256, m (ix2 r 0) := by
  pointwise [Tile.total, k0_pay4]
  exact Finset.sum_congr rfl fun r _ => Finset.sum_const _ |>.trans (by simp)

/-- The kernel's loss of the sum of all row minima. -/
theorem pay9_apply (s : EReal) (y : S1x1.Idx) : k0_pay9 (F := Ideal) s y
    = Ideal.div s (Ideal.ofBits .f32 0x48800000#32)
      + Ideal.ofBits .f32 0x3E800000#32 * Ideal.div s (Ideal.ofBits .f32 0x48800000#32) := by
  pointwise [k0_pay9]

/-- The scalar unit's exponential is the exponential. -/
theorem scalar_exp (a : EReal) : Scalar.exp (F := Ideal) (φ := .f32) a = Ideal.exp a := rfl

/-- The kernel's perplexity of the histogram. -/
theorem pay10_apply (h : FVec Ideal S1x8192 .f32) (y : S1x1.Idx) : k0_pay10 (F := Ideal) h y
    = Ideal.exp (0 - ∑ c : Fin 8192, h (ix2 0 c) * Ideal.ofBits .f32 0x39000000#32
        * Ideal.log (h (ix2 0 c) * Ideal.ofBits .f32 0x39000000#32 + Ideal.ofBits .f32 0x2EDBE6FF#32)) := by
  pointwise [k0_pay10]
  rw [Fin.sum_univ_one]
  exact scalar_exp _

/-- An encoding of the kernel: one at the index's column, zero elsewhere. -/
theorem hot_apply (i : IVec S256x1 32) (r : Fin 256) (c : Fin 8192) :
    Tile.hot (F := Ideal) i (ix2 r c) = if BitVec.ofNat 32 c.val = i (ix2 r 0) then 1 else 0 := by
  show FloatOps.sitofp (F := Ideal) .f32 ((IntOp.cmpi .eq (BitVec.ofNat 32 c.val) (i (ValueIdx.ix2 r 0))).setWidth 32) = _
  rw [← ix2_eq_valueIdx]
  show (((BitVec.setWidth 32 (BitVec.ofBool (BitVec.ofNat 32 c.val == i (ix2 r 0)))).toInt : ℝ) : EReal) = _
  by_cases h : BitVec.ofNat 32 c.val = i (ix2 r 0)
  · rw [if_pos h, h]; simp
  · rw [if_neg h, beq_false_of_ne h]; simp

end kernel

section reference

open Cert.ReferenceIdeal Cert.ReferenceIdeal.Gen

/-- A row's sum of squares. -/
theorem rowSq_apply (a : FVec Ideal S8192x32 .f32) (i : Fin 8192) :
    Ref.rowSq a (ix1 i) = ∑ k : Fin 32, a (ix2 i k) * a (ix2 i k) := by
  pointwise [Ref.rowSq]

/-- A distance of the reference. -/
theorem rdist_apply (x : FVec Ideal S8x32x32x32 .f32) (e : FVec Ideal S8192x32 .f32) (i c : Fin 8192) :
    Ref.dist x e (ix2 i c) = (Ref.rowSq (Ref.flat x) (ix1 i) + Ref.rowSq e (ix1 c))
      - Ideal.ofBits .f32 0x40000000#32 * ∑ k : Fin 32, Ref.flat x (ix2 i k) * e (ix2 c k) := by
  pointwise [Ref.dist]

/-- A row of words as a column. -/
theorem column (v : IVec S8192 32) (i : Fin 8192) (z : Fin 1) :
    broadcastInDim S8192x1 ![0] bcast_S8192_S8192x1_0 v (ix2 i z) = v (ix1 i) := by
  pointwise

/-- The index column holds the columns of the row minima. -/
theorem idx_apply (d : FVec Ideal S8192x8192 .f32) (i : Fin 8192) (z : Fin 1) :
    Ref.idx (F := Ideal) d (ix2 i z) = Ref.argmin d (ix1 i) :=
  column (Ref.argmin d) i z

/-- An encoding of the reference. -/
theorem enc_apply (i : IVec S8192x1 32) (r c : Fin 8192) :
    Ref.enc (F := Ideal) i (ix2 r c) = if BitVec.ofNat 32 c.val = i (ix2 r 0) then 1 else 0 := by
  pointwise [Ref.enc]
  show (((BitVec.ofBool (i (ix2 r 0) == BitVec.ofNat 32 c.val)).toNat : ℝ) : EReal) = _
  by_cases h : BitVec.ofNat 32 c.val = i (ix2 r 0)
  · rw [if_pos h, h]; simp
  · rw [if_neg h, beq_false_of_ne (Ne.symm h)]; simp

/-- How often a code is chosen, over the number of points. -/
theorem probs_apply (h : FVec Ideal S8192x8192 .f32) (c : Fin 8192) :
    Ref.probs h (ix1 c) = Ideal.div (∑ r : Fin 8192, h (ix2 r c)) (Ideal.ofBits .f32 0x46000000#32) := by
  pointwise [Ref.probs]

/-- The reference's perplexity. -/
theorem perp_apply (h : FVec Ideal S8192x8192 .f32) (y : S_.Idx) : Ref.perp h y
    = Ideal.exp (-∑ c : Fin 8192, Ref.probs h (ix1 c)
        * Ideal.log (Ref.probs h (ix1 c) + Ideal.ofBits .f32 0x2EDBE6FF#32)) := by
  pointwise [Ref.perp]

/-- The reference's loss of the mean squared difference. -/
theorem loss_apply (x q : FVec Ideal S8x32x32x32 .f32) (y : S_.Idx) :
    Ref.loss x q y = Ref.mse x q y + Ideal.ofBits .f32 0x3E800000#32 * Ref.mse x q y := by
  pointwise [Ref.loss]

/-- A cast to another shape keeps the sum over all entries. -/
theorem sum_shapeCast {s t : Shape} (v : s.Idx → EReal) (h : s.ShapeCasts t) :
    ∑ i : t.Idx, shapeCast t v h i = ∑ i : s.Idx, v i := by
  unfold shapeCast
  exact Fintype.sum_equiv (Shape.reshapeEquiv _) _ _ fun _ => rfl

/-- So it keeps the sum of the squared differences of two arrays. -/
theorem sum_sq_shapeCast {s t : Shape} (q x : FVec Ideal s .f32) (h : s.ShapeCasts t) :
    ∑ i : t.Idx, mulf (subf (shapeCast t q h) (shapeCast t x h)) (subf (shapeCast t q h) (shapeCast t x h)) i
      = ∑ j : s.Idx, (q j - x j) * (q j - x j) :=
  sum_shapeCast (fun j => (q j - x j) * (q j - x j)) h

/-- The codes chosen, one per row, in the shape of the rows. -/
theorem quant_rows (h : FVec Ideal S8192x8192 .f32) (e : FVec Ideal S8192x32 .f32) (i : Fin 8192) (d : Fin 32) :
    Host.dotGeneral dot_S8192x8192_S8192x32_S8192x32_1_0_0_1_n_n none h e (ix2 i d)
      = ∑ c : Fin 8192, h (ix2 i c) * e (ix2 c d) := by
  pointwise

/-- The mean squared difference, summed over the rows instead of over the image. -/
theorem mse_apply (x : FVec Ideal S8x32x32x32 .f32) (h : FVec Ideal S8192x8192 .f32) (e : FVec Ideal S8192x32 .f32)
    (y : S_.Idx) : Ref.mse x (Ref.quant h e) y
      = Ideal.div (∑ i : Fin 8192, ∑ d : Fin 32,
          ((∑ c : Fin 8192, h (ix2 i c) * e (ix2 c d)) - Ref.flat x (ix2 i d))
            * ((∑ c : Fin 8192, h (ix2 i c) * e (ix2 c d)) - Ref.flat x (ix2 i d)))
          (Ideal.ofBits .f32 0x48800000#32) := by
  pointwise [Ref.mse]
  rw [Ideal.hostReduceAdd_total _ (fun b => b.elim0), zero_add]
  have hx : Ref.nhwc x = shapeCast S8x32x32x32 (Ref.flat x) shapeCasts_S8192x32_S8x32x32x32 :=
    (shapeCast_shapeCast _ _ _).symm
  rw [hx]
  unfold Ref.quant
  rw [sum_sq_shapeCast]
  rw [sum_idx2]
  simp only [quant_rows]

end reference

end Cert.Proof.Entry

end
-- ==== Proof.Argmin.lean ====
/-
  Both programs choose, of each row of distances, the first column of the least entry: the kernel by eight chunks and a
  running pair, the reference by one fold over the row.
-/
module
public import proofs.«01_k».proof.Proof.First
public import proofs.«01_k».proof.Proof.Entry

@[expose] public section

noncomputable section

namespace Cert.Proof.Argmin

open Idealize.ShloMosaic Cert.Proof.First

/-- A row of an array of 8192 columns as a function of the column number (taken modulo 8192). -/
def rowOf {n : ℕ} (D : (⟨2, ![n, 8192]⟩ : Shape).Idx → EReal) (r : Fin n) : ℕ → EReal := fun j =>
  D (ix2 r (⟨j % 8192, Nat.mod_lt _ (by norm_num)⟩ : Fin 8192))

/-- Within the row the column number is itself. -/
theorem rowOf_fin {n : ℕ} (D : (⟨2, ![n, 8192]⟩ : Shape).Idx → EReal) (r : Fin n) (c : Fin 8192) :
    rowOf D r c.val = D (ix2 r c) :=
  congrArg (fun j => D (ix2 r j)) (Fin.ext (Nat.mod_eq_of_lt c.isLt))

section kernel

open Cert.KernelIdeal Cert.KernelIdeal.Gen

/-- A chunk's minimum and column are the first least value of its stretch of the row. -/
theorem first_chunk (D : FVec Ideal S256x8192 .f32) (r : Fin 256) (k : ℕ) (hk : k < 8) :
    ∃ q, Tile.cidx (Tile.chunk D k) (BitVec.ofNat 32 (1024 * k)) (ix2 r 0) = BitVec.ofNat 32 q
      ∧ First (rowOf D r) (1024 * k) (1024 * (k + 1)) (Tile.cmin (Tile.chunk D k) (ix2 r 0)) q := by
  have hc : ∀ c : Fin 1024, Tile.chunk D k (ix2 r c) = rowOf D r (1024 * k + c.val) := fun c => by
    unfold Tile.chunk rowOf
    rw [ix2_eq_valueIdx]; rfl
  obtain ⟨q, hw, hq, hle, hlt⟩ := First.chunk (n := 1024) (by norm_num) (by norm_num) (fun c => Tile.chunk D k (ix2 r c))
    (Tile.cmin (Tile.chunk D k) (ix2 r 0)) _ (Entry.cmin_apply _ r 0) rfl
  refine ⟨1024 * k + q.val, ?_, by omega, by omega, ?_, fun j ha hb => ?_, fun j ha hb => ?_⟩
  · rw [Entry.cidx_apply, hw, Nat.add_comm, BitVec.ofNat_add]
  · rw [← hc]; exact hq
  · have := hle ⟨j - 1024 * k, by omega⟩
    simp only [hc] at this
    rwa [Nat.add_sub_cancel' ha] at this
  · have := hlt ⟨j - 1024 * k, by omega⟩ (Fin.lt_def.2 (by simp only []; omega))
    simp only [hc] at this
    rwa [Nat.add_sub_cancel' ha] at this

/-- The running pair after a chunk is the first least value of the row so far. -/
theorem first_best (D : FVec Ideal S256x8192 .f32) (r : Fin 256) (k : ℕ) (hk : k < 8) :
    ∃ q, (Tile.best D k).2 (ix2 r 0) = BitVec.ofNat 32 q
      ∧ First (rowOf D r) 0 (1024 * (k + 1)) ((Tile.best D k).1 (ix2 r 0)) q := by
  induction k with
  | zero =>
    obtain ⟨q, hq, h⟩ := first_chunk D r 0 hk
    rw [Nat.mul_zero] at hq h
    have e : Tile.best D 0 = (Tile.cmin (Tile.chunk D 0), Tile.cidx (Tile.chunk D 0) 0#32) := rfl
    rw [e]
    refine ⟨q, hq, ?_⟩
    dsimp only
    exact h
  | succ k ih =>
    obtain ⟨q, hq, h⟩ := ih (by omega)
    obtain ⟨q', hq', h'⟩ := first_chunk D r (k + 1) hk
    have hs : ∀ {α : Type} (a b : α), Scalar.select (FloatOps.cmpf .olt (Tile.cmin (Tile.chunk D (k + 1)) (ix2 r 0))
        ((Tile.best D k).1 (ix2 r 0))) a b
          = if Tile.cmin (Tile.chunk D (k + 1)) (ix2 r 0) < (Tile.best D k).1 (ix2 r 0) then a else b := fun a b => by
      unfold Scalar.select
      refine if_congr ?_ rfl rfl
      show BitVec.ofBool (decide _) = 1#1 ↔ _
      by_cases g : Tile.cmin (Tile.chunk D (k + 1)) (ix2 r 0) < (Tile.best D k).1 (ix2 r 0) <;> simp [g]
    refine ⟨if Tile.cmin (Tile.chunk D (k + 1)) (ix2 r 0) < (Tile.best D k).1 (ix2 r 0) then q' else q, ?_, ?_⟩
    · show Scalar.select _ (Tile.cidx _ _ (ix2 r 0)) ((Tile.best D k).2 (ix2 r 0)) = _
      refine (hs _ _).trans ?_
      rw [hq, hq']
      split_ifs <;> rfl
    · have e : (Tile.best D (k + 1)).1 (ix2 r 0) = _ := hs (Tile.cmin (Tile.chunk D (k + 1)) (ix2 r 0)) ((Tile.best D k).1 (ix2 r 0))
      rw [e]
      exact h.join h'

end kernel

section reference

open Cert.ReferenceIdeal Cert.ReferenceIdeal.Gen

/-- The (value, column) pairs of a row are the row's. -/
theorem mem_row {n k : ℕ} (D : (⟨2, ![n, k]⟩ : Shape).Idx → EReal) (h : (⟨2, ![n, k]⟩ : Shape).ReducesTo [1] ⟨1, ![n]⟩)
    (i : Fin n) (p : EReal × BitVec 32) :
    p ∈ Host.argReduceFiber D (iotaInDim ⟨2, ![n, k]⟩ 32 (1 : Fin 2)) h (ix1 i)
      ↔ ∃ c : Fin k, p = (D (ix2 i c), BitVec.ofNat 32 c.val) := by
  rw [Host.argReduceFiber, List.mem_map]
  constructor
  · rintro ⟨q, hq, rfl⟩
    obtain ⟨c, hc⟩ := (Shape.ReducesTo.fiber_r2_a1 _ _ _).1 (of_decide_eq_true (List.mem_filter.1 hq).2)
    refine ⟨c, ?_⟩
    rw [← hc]
    rfl
  · rintro ⟨c, rfl⟩
    refine ⟨(⟨2, ![n, k]⟩ : Shape).rowMajor (ix2 i c), List.mem_filter.2 ⟨List.mem_finRange _, decide_eq_true ?_⟩, ?_⟩
    · rw [Equiv.symm_apply_apply]
      exact (Shape.ReducesTo.fiber_r2_a1 _ _ _).2 ⟨c, rfl⟩
    · rw [Equiv.symm_apply_apply]
      rfl

/-- An entry of a constant array is its literal's number. -/
theorem const_apply {s : Shape} (w : BitVec 32) (i : s.Idx) : constant (F := Ideal) s .f32 w i = Ideal.ofBits .f32 w := rfl

/-- The fold's first value is +∞, -/
theorem top_const (i : S_.Idx) : constant (F := Ideal) S_ .f32 0x7F800000#32 i = (⊤ : EReal) := by
  rw [const_apply, Entry.lit_top]

/-- and its first column is zero. -/
theorem zero_const (i : S_.Idx) : constantI S_ 32 0#32 i = 0#32 := rfl

/-- Over the extended reals a fold of pairs is the fold over the list of each row's pairs. -/
theorem argReduce_fold {s t u : Shape} {axes : List (Fin s.rank)}
    (f : Ideal .f32 × BitVec 32 → Ideal .f32 × BitVec 32 → Ideal .f32 × BitVec 32)
    (x : FVec Ideal s .f32) (y : IVec s 32) (a : FVec Ideal u .f32) (b : IVec u 32) (h : s.ReducesTo axes t) (hu : 0 < u.numel)
    (v : Ideal .f32) (w : BitVec 32) (ha : ∀ i, a i = v) (hb : ∀ i, b i = w) :
    (fun j => (Host.argReduce f x y a b h hu j).2) = fun j => ((Host.argReduceFiber x y h j).foldl f (v, w)).2 := by
  funext j
  rw [Ideal.argReduce_eq_reduce2, Host.reduce2_eq_foldl_fiber, ha, hb]

/-- The reference's choice is the fold over the (value, column) pairs of each row. -/
theorem argmin_fold (D : FVec Ideal S8192x8192 .f32) : Ref.argmin D = fun j =>
    ((Host.argReduceFiber D (iotaInDim S8192x8192 32 1) reducesTo_S8192x8192_S8192_d1 j).foldl
      (reducer_argmin_f32_i32 (F := Ideal)) ((⊤ : EReal), 0#32)).2 :=
  argReduce_fold reducer_argmin_f32_i32 D (iotaInDim S8192x8192 32 1) (constant S_ .f32 0x7F800000#32) (constantI S_ 32 0#32)
    reducesTo_S8192x8192_S8192_d1 h_S_ ⊤ 0#32 top_const zero_const

/-- A fold over a row's pairs ends at the row's first least value. -/
theorem first_fold (D : FVec Ideal S8192x8192 .f32) (a : IVec S8192 32) (g : S8192.Idx → List (Ideal .f32 × BitVec 32))
    (ha : a = fun j => ((g j).foldl (reducer_argmin_f32_i32 (F := Ideal)) ((⊤ : EReal), 0#32)).2) (i : Fin 8192)
    (hg : ∀ p, p ∈ g (ix1 i) ↔ ∃ c : Fin 8192, p = (D (ix2 i c), BitVec.ofNat 32 c.val)) :
    ∃ v q, a (ix1 i) = BitVec.ofNat 32 q ∧ First (rowOf D i) 0 8192 v q := by
  obtain ⟨q, h, f⟩ := First.row (g (ix1 i)) (rowOf D i) 8192 (by norm_num) le_rfl (fun p => (hg p).trans
      ⟨fun ⟨c, hc⟩ => ⟨c.val, c.isLt, by rw [hc, rowOf_fin]⟩,
        fun ⟨k, hk, e⟩ => ⟨⟨k, hk⟩, by rw [e]; exact congrArg (·, _) (rowOf_fin D i ⟨k, hk⟩)⟩⟩) _ rfl
  exact ⟨_, q, (congrFun ha _).trans h, f⟩

/-- The reference's fold over a row ends at the row's first least value. -/
theorem first_argmin (D : FVec Ideal S8192x8192 .f32) (i : Fin 8192) :
    ∃ v q, Ref.argmin D (ix1 i) = BitVec.ofNat 32 q ∧ First (rowOf D i) 0 8192 v q :=
  first_fold D _ _ (argmin_fold D) i (mem_row D reducesTo_S8192x8192_S8192_d1 i)

end reference

/-- Where a row of the kernel's block is the reference's row, the kernel's index is the reference's, a column of the
    row, and the kernel's minimum is the entry there. -/
theorem same_choice (D : FVec Ideal Cert.KernelIdeal.S256x8192 .f32) (D' : FVec Ideal Cert.ReferenceIdeal.S8192x8192 .f32)
    (r : Fin 256) (i : Fin 8192) (h : ∀ c : Fin 8192, D (ix2 r c) = D' (ix2 i c)) :
    ∃ q : Fin 8192, (Tile.best D 7).2 (ix2 r 0) = BitVec.ofNat 32 q.val ∧ Ref.argmin D' (ix1 i) = BitVec.ofNat 32 q.val
      ∧ (Tile.best D 7).1 (ix2 r 0) = D' (ix2 i q) := by
  obtain ⟨q, e, f⟩ := first_best D r 7 (by norm_num)
  obtain ⟨v, q', e', f'⟩ := first_argmin D' i
  have hr : rowOf D r = rowOf D' i := funext fun j => h _
  rw [hr] at f
  obtain ⟨hv, hq⟩ := f.unique f'
  subst hq
  have hlt : q < 8192 := f'.lt
  refine ⟨⟨q, hlt⟩, e, e', ?_⟩
  rw [← f.val]
  exact rowOf_fin D' i ⟨q, hlt⟩

end Cert.Proof.Argmin

end
-- ==== Proof.Agree.lean ====
/-
  The kernel's results, row by row, are the reference's over the extended reals: the distances are the same expression of
  the same numbers, so both programs choose the same codes, and everything else is made of the two. The loss and the
  perplexity are sums that the two programs group differently.
-/
module
public import proofs.«01_k».proof.Proof.Argmin
public import proofs.«01_k».proof.Proof.Blocks

@[expose] public section

noncomputable section

namespace Cert.Proof.Agree

open Cert.KernelIdeal Cert.KernelIdeal.Gen Cert.Proof.Blocks
open Idealize.ShloMosaic Idealize.ShloMosaic.TcCoe

variable (m : (ℓ : Loc nD τ sig) → Buf (Elt Ideal) ℓ) (c : Dev nD)

/-- The reference's distances of the kernel's arguments. -/
abbrev refDist : FVec Ideal S8192x8192 .f32 := Ref.dist (img m c) (codes m c)

/-- The reference's indices of the kernel's arguments. -/
abbrev refIdx : IVec S8192x1 32 := Ref.idx (F := Ideal) (refDist m c)

/-- The reference's encodings of the kernel's arguments. -/
abbrev refEnc : FVec Ideal S8192x8192 .f32 := Ref.enc (F := Ideal) (refIdx m c)

/-- The reference's codes, one per row. -/
abbrev refRows : FVec Ideal S8192x32 .f32 :=
  Host.dotGeneral Cert.ReferenceIdeal.dot_S8192x8192_S8192x32_S8192x32_1_0_0_1_n_n none (refEnc m c) (codes m c)

/-- A distance. -/
theorem refDist_apply (i k : Fin 8192) : refDist m c (ix2 i k)
    = (Ref.rowSq (Ref.flat (img m c)) (ix1 i) + Ref.rowSq (codes m c) (ix1 k))
      - Ideal.ofBits .f32 0x40000000#32 * ∑ d : Fin 32, Ref.flat (img m c) (ix2 i d) * codes m c (ix2 k d) :=
  Entry.rdist_apply _ _ i k

/-- An index. -/
theorem refIdx_apply (i : Fin 8192) (z : Fin 1) : refIdx m c (ix2 i z) = Ref.argmin (refDist m c) (ix1 i) :=
  Entry.idx_apply _ i z

/-- An encoding. -/
theorem refEnc_apply (i k : Fin 8192) :
    refEnc m c (ix2 i k) = if BitVec.ofNat 32 k.val = refIdx m c (ix2 i 0) then 1 else 0 :=
  Entry.enc_apply _ i k

/-- An entry of a row's code. -/
theorem refRows_apply (i : Fin 8192) (d : Fin 32) :
    refRows m c (ix2 i d) = ∑ k : Fin 8192, refEnc m c (ix2 i k) * codes m c (ix2 k d) :=
  Entry.quant_rows _ _ i d

/-! ## Distances, indices, encodings -/

/-- A row of numbers as a column. -/
theorem col (v : FVec Ideal S8192 .f32) (i : Fin 8192) (z : Fin 1) :
    broadcastInDim S8192x1 ![0] bcast_S8192_S8192x1_0 v (ix2 i z) = v (ix1 i) := by
  pointwise

/-- A row of numbers as an array of one row. -/
theorem oneRow (v : FVec Ideal S8192 .f32) (z : Fin 1) (k : Fin 8192) :
    broadcastInDim S1x8192 ![1] bcast_S8192_S1x8192_1 v (ix2 z k) = v (ix1 k) := by
  pointwise

/-- An entry of the transposed codebook. -/
theorem transposed (e : FVec Ideal S8192x32 .f32) (d : Fin 32) (k : Fin 8192) :
    transpose S32x8192 [1, 0] e transposes_S8192x32_S32x8192_1_0 (ix2 d k) = e (ix2 k d) := by
  pointwise

/-- The kernel's distances are the reference's. -/
theorem dist_eq (t : Fin cfg0.N) (r : Fin 256) (k : Fin 8192) :
    Sweep.blkDist m c t (ix2 r k) = refDist m c (ix2 (row t r) k) := by
  unfold Sweep.blkDist
  rw [Entry.dist_apply, refDist_apply, iblk_rowSq, iblk_codeSq, col, oneRow]
  have hT : ∀ d : Fin 32, (iblk m c 3 t : Vec Ideal S32x8192 .f32) (ix2 d k) = codes m c (ix2 k d) := fun d =>
    (iblk_codesT m c t d k).trans (transposed _ d k)
  simp only [iblk_rows, hT]

/-- Both programs choose the same code for a row, and the kernel's row minimum is the distance to it. -/
theorem choice (t : Fin cfg0.N) (r : Fin 256) :
    ∃ q : Fin 8192, Sweep.blkIdx m c t (ix2 r 0) = BitVec.ofNat 32 q.val
      ∧ Ref.argmin (refDist m c) (ix1 (row t r)) = BitVec.ofNat 32 q.val
      ∧ Sweep.blkMin m c t (ix2 r 0) = refDist m c (ix2 (row t r) q) :=
  Argmin.same_choice (Sweep.blkDist m c t) (refDist m c) r (row t r) (dist_eq m c t r)

/-- The kernel's indices are the reference's. -/
theorem idx_eq (t : Fin cfg0.N) (r : Fin 256) :
    Sweep.blkIdx m c t (ix2 r (0 : Fin 1)) = refIdx m c (ix2 (row t r) (0 : Fin 1)) := by
  obtain ⟨q, h, h', -⟩ := choice m c t r
  rw [refIdx_apply, h, h']

/-- The kernel's encodings are the reference's. -/
theorem hot_eq (t : Fin cfg0.N) (r : Fin 256) (k : Fin 8192) :
    Tile.hot (F := Ideal) (Sweep.blkIdx m c t) (ix2 r k) = refEnc m c (ix2 (row t r) k) := by
  rw [Entry.hot_apply, refEnc_apply, idx_eq]

/-! ## The straight-through output -/

/-- The straight-through combination at an entry. -/
theorem st_apply {s : Shape} (a q : FVec Ideal s .f32) (j : s.Idx) : addf a (subf q a) j = a j + (q j - a j) := rfl

/-- The straight-through combination in another shape. -/
theorem st_shapeCast {s t : Shape} (a q : FVec Ideal s .f32) (h : s.ShapeCasts t) :
    shapeCast t (addf a (subf q a)) h = addf (shapeCast t a h) (subf (shapeCast t q h) (shapeCast t a h)) := rfl

/-- The kernel's straight-through rows are the reference's before they take the image's shape. -/
theorem through_eq (t : Fin cfg0.N) (r : Fin 256) (k : Fin 32) :
    Tile.through (iblk m c 0 t) (iblk m c 2 t) (Tile.hot (Sweep.blkIdx m c t)) (ix2 r k)
      = addf (Ref.flat (img m c)) (subf (refRows m c) (Ref.flat (img m c))) (ix2 (row t r) k) := by
  rw [Entry.through_apply, st_apply, refRows_apply]
  simp only [iblk_rows, iblk_codes, hot_eq]

/-- In the image's shape they are the reference's output. -/
theorem qst_eq : transpose S8x32x32x32 [0, 3, 1, 2] (shapeCast S8x32x32x32
      (addf (Ref.flat (img m c)) (subf (refRows m c) (Ref.flat (img m c)))) shapeCasts_S8192x32_S8x32x32x32)
        transposes_S8x32x32x32_S8x32x32x32_0_3_1_2
    = Ref.qst (img m c) (Ref.quant (refEnc m c) (codes m c)) := by
  rw [st_shapeCast]
  have hx : shapeCast S8x32x32x32 (Ref.flat (img m c)) shapeCasts_S8192x32_S8x32x32x32 = Ref.nhwc (img m c) :=
    shapeCast_shapeCast _ _ _
  rw [hx]
  rfl

/-! ## The sums over all rows -/

/-- Summing over grid points and their rows is summing over all rows. -/
theorem sum_rows (f : Fin 8192 → EReal) : ∑ t : Fin 32, ∑ r : Fin 256, f (row t r) = ∑ i : Fin 8192, f i := by
  rw [← Fintype.sum_prod_type']
  refine Fintype.sum_equiv (finProdFinEquiv (m := 32) (n := 256)) _ _ fun p => congrArg f (Fin.ext ?_)
  show p.1.val * 256 + p.2.val = p.2.val + 256 * p.1.val
  omega

/-- The kernel's running sum after a grid point. -/
theorem sse_eq (n : ℕ) (h : n < cfg0.N) : (Sweep.sse m c n h : EReal)
    = ∑ t : Fin (n + 1), ∑ r : Fin 256, Sweep.blkMin m c ⟨t.val, lt_of_le_of_lt (Nat.le_of_lt_succ t.isLt) h⟩ (ix2 r 0) := by
  induction n with
  | zero =>
    rw [Fin.sum_univ_one]
    exact Entry.total_apply _
  | succ n ih =>
    rw [Fin.sum_univ_castSucc]
    exact congrArg₂ (fun a b : EReal => a + b) (ih _) (Entry.total_apply _)

/-- The kernel's running histogram after a grid point. -/
theorem hist_eq (n : ℕ) (h : n < cfg0.N) (k : Fin 8192) : (Sweep.hist m c n h (ix2 0 k) : EReal)
    = ∑ t : Fin (n + 1), ∑ r : Fin 256,
        Tile.hot (F := Ideal) (Sweep.blkIdx m c ⟨t.val, lt_of_le_of_lt (Nat.le_of_lt_succ t.isLt) h⟩) (ix2 r k) := by
  induction n with
  | zero =>
    rw [Fin.sum_univ_one]
    exact Entry.count_apply _ 0 k
  | succ n ih =>
    rw [Fin.sum_univ_castSucc]
    exact congrArg₂ (fun a b : EReal => a + b) (ih _) (Entry.count_apply _ 0 k)

/-- The whole histogram counts the reference's encodings. -/
theorem hist_all (k : Fin 8192) : (Sweep.hist m c 31 last_lt (ix2 0 k) : EReal) = ∑ i : Fin 8192, refEnc m c (ix2 i k) := by
  rw [hist_eq, ← sum_rows]
  exact Finset.sum_congr rfl fun t _ => Finset.sum_congr rfl fun r _ => hot_eq m c t r k

/-! ## The perplexity -/

/-- Multiplying by the reciprocal of the number of points is dividing by it. -/
theorem share (a : EReal) : a * Ideal.ofBits .f32 0x39000000#32 = Ideal.div a (Ideal.ofBits .f32 0x46000000#32) := by
  rw [Entry.lit_share, Entry.lit_points]
  unfold Ideal.div
  rw [if_neg (by norm_num), ← EReal.coe_inv]
  norm_num

/-- The kernel's perplexity is the reference's. -/
theorem perp_eq : shapeCast S_ (k0_pay10 (Sweep.hist m c 31 last_lt)) shapeCasts_S1x1_S_ = Ref.perp (F := Ideal) (refEnc m c) := by
  funext y
  have e : ∀ z : S1x1.Idx, k0_pay10 (F := Ideal) (Sweep.hist m c 31 last_lt) z = Ref.perp (F := Ideal) (refEnc m c) y := fun z => by
    rw [Entry.pay10_apply, Entry.perp_apply, sub_eq_add_neg, zero_add]
    simp only [hist_all, share, Entry.probs_apply]
  exact e _

/-! ## The loss -/

/-- Both programs' encodings of a row pick the row's code out of the codebook. -/
theorem picked (i q : Fin 8192) (h : Ref.argmin (refDist m c) (ix1 i) = BitVec.ofNat 32 q.val) (d : Fin 32) :
    ∑ k : Fin 8192, refEnc m c (ix2 i k) * codes m c (ix2 k d) = codes m c (ix2 q d) := by
  have e : ∀ k : Fin 8192, refEnc m c (ix2 i k) = if k = q then 1 else 0 := fun k => by
    rw [refEnc_apply, refIdx_apply, h]
    refine if_congr ⟨fun g => Fin.ext ?_, fun g => by rw [g]⟩ rfl rfl
    have := congrArg BitVec.toNat g
    rw [BitVec.toNat_ofNat, BitVec.toNat_ofNat] at this
    have := k.isLt
    have := q.isLt
    omega
  simp only [e, ite_mul, one_mul, zero_mul, Finset.sum_ite_eq', Finset.mem_univ, if_true]

/-- Of real numbers, the squared norms less twice the product are the squared differences. -/
theorem square (a b : Fin 32 → ℝ) :
    ((∑ k, (a k : EReal) * (a k : EReal)) + ∑ k, (b k : EReal) * (b k : EReal)) - ((2 : ℝ) : EReal) * ∑ k, (a k : EReal) * (b k : EReal)
      = ∑ k, ((b k : EReal) - (a k : EReal)) * ((b k : EReal) - (a k : EReal)) := by
  have cs : ∀ f : Fin 32 → ℝ, ∑ k, ((f k : ℝ) : EReal) = ((∑ k, f k : ℝ) : EReal) := fun f =>
    (map_sum (⟨⟨Real.toEReal, EReal.coe_zero⟩, EReal.coe_add⟩ : ℝ →+ EReal) f Finset.univ).symm
  simp only [← EReal.coe_mul, ← EReal.coe_sub, cs, ← EReal.coe_add]
  refine congrArg _ ?_
  rw [Finset.mul_sum, ← Finset.sum_add_distrib, ← Finset.sum_sub_distrib]
  exact Finset.sum_congr rfl fun k _ => by ring

variable (hx : ∀ j, ∃ a : ℝ, Ref.flat (img m c) j = (a : EReal)) (he : ∀ j, ∃ a : ℝ, codes m c j = (a : EReal))

include hx he in
/-- Of finite arguments, a row's minimum is the squared difference of the image point and its code. -/
theorem row_loss (t : Fin cfg0.N) (r : Fin 256) : Sweep.blkMin m c t (ix2 r 0)
    = ∑ d : Fin 32, ((∑ k : Fin 8192, refEnc m c (ix2 (row t r) k) * codes m c (ix2 k d)) - Ref.flat (img m c) (ix2 (row t r) d))
        * ((∑ k : Fin 8192, refEnc m c (ix2 (row t r) k) * codes m c (ix2 k d)) - Ref.flat (img m c) (ix2 (row t r) d)) := by
  obtain ⟨q, -, h, hm⟩ := choice m c t r
  choose a ha using hx
  choose b hb using he
  rw [hm, refDist_apply, Entry.rowSq_apply, Entry.rowSq_apply, Entry.lit_two]
  simp only [picked m c _ q h]
  simp only [ha, hb]
  exact square (fun d => a (ix2 (row t r) d)) fun d => b (ix2 q d)

include hx he in
/-- Of finite arguments, the last running sum is the sum of all squared differences. -/
theorem sse_all : (Sweep.sse m c 31 last_lt : EReal)
    = ∑ i : Fin 8192, ∑ d : Fin 32, ((∑ k : Fin 8192, refEnc m c (ix2 i k) * codes m c (ix2 k d)) - Ref.flat (img m c) (ix2 i d))
        * ((∑ k : Fin 8192, refEnc m c (ix2 i k) * codes m c (ix2 k d)) - Ref.flat (img m c) (ix2 i d)) := by
  rw [sse_eq, ← sum_rows]
  exact Finset.sum_congr rfl fun t _ => Finset.sum_congr rfl fun r _ => row_loss m c hx he t r

include hx he in
/-- Of finite arguments, the kernel's loss is the reference's. -/
theorem loss_eq : shapeCast S_ (k0_pay9 (Sweep.sse m c 31 last_lt)) shapeCasts_S1x1_S_
    = Ref.loss (img m c) (Ref.quant (refEnc m c) (codes m c)) := by
  funext y
  have e : ∀ z : S1x1.Idx, k0_pay9 (F := Ideal) (Sweep.sse m c 31 last_lt) z
      = Ref.loss (img m c) (Ref.quant (refEnc m c) (codes m c)) y := fun z => by
    rw [Entry.pay9_apply, Entry.loss_apply, Entry.mse_apply, sse_all m c hx he]
  exact e _

end Cert.Proof.Agree

end
-- ==== Proof.Finite.lean ====
/-
  What the precondition says: every entry of the image and of the codebook is a real number.
-/
module
public import proofs.«01_k».proof.Proof.Argmin
public import proofs.«01_k».proof.Pre_finite
public import proofs.«01_k».proof.Proof.Gen.Pre_finite
public import Idealize.ShloMosaic.Lib.ReduceAll

@[expose] public section

noncomputable section

namespace Cert.Proof.Finite

open Idealize.ShloMosaic

/-- A number whose absolute value is below +∞ is real. -/
theorem real_of_abs (a : EReal) (h : max a (-a) < ⊤) : ∃ r : ℝ, a = (r : EReal) := by
  induction a using EReal.rec with
  | bot => simp at h
  | coe r => exact ⟨r, rfl⟩
  | top => simp at h

/-- An entry that passes the comparison of its absolute value with +∞ is real. -/
theorem real_of_cmp {s : Shape} (x w : FVec Ideal s .f32) (i : s.Idx) (hw : w i = (⊤ : EReal))
    (h : cmpf .olt (Host.absf x) w i = 1#1) : ∃ r : ℝ, (x i : EReal) = (r : EReal) := by
  refine real_of_abs (x i) ?_
  rw [← hw]
  exact (Ideal.cmp_olt_eq_one _ _).1 h

section

open Cert.Pre_finite Cert.Pre_finite.Gen

/-- An entry of a spread-out constant is its literal's number. -/
theorem spread {s : Shape} (w : BitVec 32) (h : S_.BroadcastsInDim s (![] : Fin 0 → Fin s.rank)) (i : s.Idx) :
    broadcastInDim s ![] h (constant (F := Ideal) S_ .f32 w) i = Ideal.ofBits .f32 w := rfl

/-- There is one index of a scalar. -/
instance : Subsingleton S_.Idx := ⟨fun _ _ => funext fun a => a.elim0⟩

/-- The precondition makes every entry of both arguments real. -/
theorem entries (x : FVec Ideal S8x32x32x32 .f32) (e : FVec Ideal S8192x32 .f32) (h : fn x e = fun _ => 1#1) :
    (∀ i, ∃ r : ℝ, (x i : EReal) = (r : EReal)) ∧ ∀ i, ∃ r : ℝ, (e i : EReal) = (r : EReal) := by
  unfold fn at h
  dsimp only at h
  have h0 := congrFun h (Shape.Idx.first h_S_)
  obtain ⟨hx, he⟩ := IntOp.andi_eq_one.1 h0
  refine ⟨fun i => real_of_cmp _ _ i ((spread _ _ i).trans Entry.lit_top) (Host.reduce_andi_all _ _ _ _ _ hx i),
    fun i => real_of_cmp _ _ i ((spread _ _ i).trans Entry.lit_top) (Host.reduce_andi_all _ _ _ _ _ he i)⟩

end

end Cert.Proof.Finite

end
-- ==== Proof.Equal.lean ====
/-
  The value claim: over the extended reals, from finite arguments on which the two memories agree, the kernel program and
  the reference program end with equal results, all six of them.
-/
module
public import proofs.«01_k».proof.Defs
public import proofs.«01_k».proof.Proof.Run
public import proofs.«01_k».proof.Proof.Agree
public import proofs.«01_k».proof.Proof.Finite

@[expose] public section

noncomputable section

namespace Cert.Proof.Equal

open Cert.KernelIdeal Cert.KernelIdeal.Gen Cert.Proof.Blocks Cert.Proof.Agree
open Idealize.ShloMosaic Idealize.ShloMosaic.TcCoe Idealize.SL.Sem

/-- An entry of an array in another shape or axis order is an entry of the array: what holds of all entries of the image
    holds of all entries of its rows. -/
theorem flat_entry (x : FVec Ideal S8x32x32x32 .f32) (p : EReal → Prop) (h : ∀ i, p (x i)) (j : S8192x32.Idx) : p (Ref.flat x j) :=
  h _

/-- From finite arguments the kernel program ends with the reference's six results of its own arguments. -/
theorem kernel (m : (ℓ : Loc nD τ sig) → Buf (Elt Ideal) ℓ) (g : Dev nD → PrngReg) (hpre : Pre_KernelIdeal_finite m) :
    θ_run (defs (F := Ideal)) (onTc (τ := τ) (main (F := Ideal))) ⟨m, fun _ => 0, g⟩ fun r => ∀ c : Dev nD,
      r.2.mem ((c.tc : Thread nD τ).loc main_v9_0) = refDist m c
      ∧ r.2.mem ((c.tc : Thread nD τ).loc main_v11) = Ref.qst (img m c) (Ref.quant (refEnc m c) (codes m c))
      ∧ r.2.mem ((c.tc : Thread nD τ).loc main_v12) = Ref.loss (img m c) (Ref.quant (refEnc m c) (codes m c))
      ∧ r.2.mem ((c.tc : Thread nD τ).loc main_v9_3) = refEnc m c
      ∧ r.2.mem ((c.tc : Thread nD τ).loc main_v9_4) = refIdx m c
      ∧ r.2.mem ((c.tc : Thread nD τ).loc main_v13) = Ref.perp (F := Ideal) (refEnc m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Run.run_main m g)
  obtain ⟨h0, h1, h2, h3, h4, h5, ha, hb⟩ := h c
  obtain ⟨fx, fe⟩ := Finite.entries (img m c) (codes m c) (hpre c)
  rw [arr_dist m c _ (dist_eq m c)] at h0
  rw [arr_through m c _ (through_eq m c)] at h1
  rw [arr_loss m c] at h2
  rw [arr_hot m c _ (hot_eq m c)] at h3
  rw [arr_idx m c _ (idx_eq m c)] at h4
  rw [arr_perp m c] at h5
  exact ⟨h0, h1.trans (qst_eq m c),
    h2.trans (loss_eq m c (flat_entry (img m c) (fun a => ∃ r : ℝ, a = (r : EReal)) fx) fe),
    h3, h4, h5.trans (perp_eq m c), ha, hb⟩

/-- The value claim. -/
theorem algebraic : algebraic_KernelIdeal_ReferenceIdeal_pre_finite := by
  intro m g m' g' hpre hargs
  refine ⟨fun c => refDist m c, fun c => Ref.qst (img m c) (Ref.quant (refEnc m c) (codes m c)),
    fun c => Ref.loss (img m c) (Ref.quant (refEnc m c) (codes m c)), fun c => refEnc m c, fun c => refIdx m c,
    fun c => Ref.perp (F := Ideal) (refEnc m c), kernel m g hpre, ?_⟩
  refine (θ_run _ _ _).mono (fun r h c => ?_) (Ref.run_main m' g')
  obtain ⟨h0, h1, h2, h3, h4, h5, ha, hb⟩ := h c
  rw [(hargs c).1, (hargs c).2] at h0 h1 h2 h3 h4 h5
  exact ⟨h0, h1, h2, h3, h4, h5, ha, hb⟩

end Cert.Proof.Equal

end
-- ==== Proof.lean ====
/-
  The certificate of the vector quantiser: the kernel's frame, at machine words and at extended reals, the reference's
  frame, that the ideal program is the kernel's own text, and that over the extended reals, from finite arguments, kernel
  and reference end with the same six results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Ref
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Pre_finite.Gen.facts,
  fun m ρ _ => Cert.Kernel.Gen.frame m ρ, fun m ρ _ => Cert.KernelIdeal.Gen.frame m ρ,
  fun m ρ _ => Cert.KernelIdeal.Gen.frame m ρ, fun m ρ _ => Cert.Proof.Ref.frame m ρ, fun m ρ _ => Cert.Proof.Ref.frame m ρ,
  trivial, Cert.Proof.Equal.algebraic⟩

end Cert.Proof

end
